-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Probe (m : (ℓ : Loc Cert.Probe.nD Cert.Probe.τ Cert.Probe.sig) → Buf (Elt Bits) ℓ) : Prop :=
  True

def Pre_ProbeIdeal (m : (ℓ : Loc Cert.ProbeIdeal.nD Cert.ProbeIdeal.τ Cert.ProbeIdeal.sig) → Buf (Elt Ideal) ℓ) : Prop :=
  True

def Pre_ZeroIdeal (m : (ℓ : Loc Cert.ZeroIdeal.nD Cert.ZeroIdeal.τ Cert.ZeroIdeal.sig) → Buf (Elt Ideal) ℓ) : Prop :=
  True

def Pre_Zero (m : (ℓ : Loc Cert.Zero.nD Cert.Zero.τ Cert.Zero.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Probe [hProbe : Cert.Probe.Facts] : Prop :=
  ∀ (m : (ℓ : Loc Cert.Probe.nD Cert.Probe.τ Cert.Probe.sig) → Buf (Elt Bits) ℓ) (g : Dev Cert.Probe.nD → PrngReg), Pre_Probe m →
    θ_run (Cert.Probe.defs (F := Bits)) (Cert.Probe.threads (F := Bits)) ⟨m, fun _ => 0, g⟩ (fun r => (∀ c : Dev Cert.Probe.nD,
      r.2.mem ((c.tc : Thread Cert.Probe.nD Cert.Probe.τ).loc Cert.Probe.main_arg0) = m ((c.tc : Thread Cert.Probe.nD Cert.Probe.τ).loc Cert.Probe.main_arg0)
      ∧ r.2.mem ((c.tc : Thread Cert.Probe.nD Cert.Probe.τ).loc Cert.Probe.main_arg1) = m ((c.tc : Thread Cert.Probe.nD Cert.Probe.τ).loc Cert.Probe.main_arg1))
      ∧ r.2.sem = fun _ => 0)

def quiescent_ProbeIdeal [hProbeIdeal : Cert.ProbeIdeal.Facts] : Prop :=
  ∀ (m : (ℓ : Loc Cert.ProbeIdeal.nD Cert.ProbeIdeal.τ Cert.ProbeIdeal.sig) → Buf (Elt Ideal) ℓ) (g : Dev Cert.ProbeIdeal.nD → PrngReg), Pre_ProbeIdeal m →
    θ_run (Cert.ProbeIdeal.defs (F := Ideal)) (Cert.ProbeIdeal.threads (F := Ideal)) ⟨m, fun _ => 0, g⟩ (fun r => (∀ c : Dev Cert.ProbeIdeal.nD,
      r.2.mem ((c.tc : Thread Cert.ProbeIdeal.nD Cert.ProbeIdeal.τ).loc Cert.ProbeIdeal.main_arg0) = m ((c.tc : Thread Cert.ProbeIdeal.nD Cert.ProbeIdeal.τ).loc Cert.ProbeIdeal.main_arg0)
      ∧ r.2.mem ((c.tc : Thread Cert.ProbeIdeal.nD Cert.ProbeIdeal.τ).loc Cert.ProbeIdeal.main_arg1) = m ((c.tc : Thread Cert.ProbeIdeal.nD Cert.ProbeIdeal.τ).loc Cert.ProbeIdeal.main_arg1))
      ∧ r.2.sem = fun _ => 0)

def quiescent_ZeroIdeal [hZeroIdeal : Cert.ZeroIdeal.Facts] : Prop :=
  ∀ (m : (ℓ : Loc Cert.ZeroIdeal.nD Cert.ZeroIdeal.τ Cert.ZeroIdeal.sig) → Buf (Elt Ideal) ℓ) (g : Dev Cert.ZeroIdeal.nD → PrngReg), Pre_ZeroIdeal m →
    θ_run (Cert.ZeroIdeal.defs (F := Ideal)) (onTc (τ := Cert.ZeroIdeal.τ) (Cert.ZeroIdeal.main (F := Ideal))) ⟨m, fun _ => 0, g⟩ (fun r => (∀ c : Dev Cert.ZeroIdeal.nD,
      r.2.mem ((c.tc : Thread Cert.ZeroIdeal.nD Cert.ZeroIdeal.τ).loc Cert.ZeroIdeal.main_arg0) = m ((c.tc : Thread Cert.ZeroIdeal.nD Cert.ZeroIdeal.τ).loc Cert.ZeroIdeal.main_arg0)
      ∧ r.2.mem ((c.tc : Thread Cert.ZeroIdeal.nD Cert.ZeroIdeal.τ).loc Cert.ZeroIdeal.main_arg1) = m ((c.tc : Thread Cert.ZeroIdeal.nD Cert.ZeroIdeal.τ).loc Cert.ZeroIdeal.main_arg1))
      ∧ r.2.sem = fun _ => 0)

def quiescent_Zero [hZero : Cert.Zero.Facts] : Prop :=
  ∀ (m : (ℓ : Loc Cert.Zero.nD Cert.Zero.τ Cert.Zero.sig) → Buf (Elt Bits) ℓ) (g : Dev Cert.Zero.nD → PrngReg), Pre_Zero m →
    θ_run (Cert.Zero.defs (F := Bits)) (onTc (τ := Cert.Zero.τ) (Cert.Zero.main (F := Bits))) ⟨m, fun _ => 0, g⟩ (fun r => (∀ c : Dev Cert.Zero.nD,
      r.2.mem ((c.tc : Thread Cert.Zero.nD Cert.Zero.τ).loc Cert.Zero.main_arg0) = m ((c.tc : Thread Cert.Zero.nD Cert.Zero.τ).loc Cert.Zero.main_arg0)
      ∧ r.2.mem ((c.tc : Thread Cert.Zero.nD Cert.Zero.τ).loc Cert.Zero.main_arg1) = m ((c.tc : Thread Cert.Zero.nD Cert.Zero.τ).loc Cert.Zero.main_arg1))
      ∧ r.2.sem = fun _ => 0)

def preserves_Kernel_KernelIdeal : Prop :=
  IdealRules.named_const.Statement Cert.KernelIdeal.κ "pi" .f32 0x40490FDB#32 ((Real.pi : ℝ) : EReal)
  ∧ IdealRules.named_const.Statement Cert.KernelIdeal.κ "c5" .f32 0xB2D7322B#32 ((-1 / 39916800 : ℝ) : EReal)
  ∧ IdealRules.named_const.Statement Cert.KernelIdeal.κ "c4" .f32 0x3638EF1D#32 ((1 / 362880 : ℝ) : EReal)
  ∧ IdealRules.named_const.Statement Cert.KernelIdeal.κ "c3" .f32 0xB9500D01#32 ((-1 / 5040 : ℝ) : EReal)
  ∧ IdealRules.named_const.Statement Cert.KernelIdeal.κ "c2" .f32 0x3C088889#32 ((1 / 120 : ℝ) : EReal)
  ∧ IdealRules.named_const.Statement Cert.KernelIdeal.κ "c1" .f32 0xBE2AAAAB#32 ((-1 / 6 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def holds_KernelIdeal_near_the_sines_pre_in_range [hKernelIdeal : Cert.KernelIdeal.Facts] [hPre_in_range : Cert.Pre_in_range.Facts] [hPost_near_the_sines : Cert.Post_near_the_sines.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_near_the_sines.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v5))) = (fun _ => 1#1))

def preserves_Probe_ProbeIdeal : Prop :=
  True

def bitexact_Probe_Zero [hProbe : Cert.Probe.Facts] [hZero : Cert.Zero.Facts] : Prop :=
  ∀ (m : (ℓ : Loc Cert.Probe.nD Cert.Probe.τ Cert.Probe.sig) → Buf (Elt Bits) ℓ) (g : Dev Cert.Probe.nD → PrngReg)
    (m' : (ℓ : Loc Cert.Zero.nD Cert.Zero.τ Cert.Zero.sig) → Buf (Elt Bits) ℓ) (g' : Dev Cert.Zero.nD → PrngReg), Pre_Probe m →
    (∀ c : Dev Cert.Probe.nD,
      m' ((c.tc : Thread Cert.Zero.nD Cert.Zero.τ).loc Cert.Zero.main_arg0) = m ((c.tc : Thread Cert.Probe.nD Cert.Probe.τ).loc Cert.Probe.main_arg0)
      ∧ m' ((c.tc : Thread Cert.Zero.nD Cert.Zero.τ).loc Cert.Zero.main_arg1) = m ((c.tc : Thread Cert.Probe.nD Cert.Probe.τ).loc Cert.Probe.main_arg1)) →
    ∃ (v0 : (c : Dev Cert.Probe.nD) → Buf (Elt Bits) ((c.tc : Thread Cert.Probe.nD Cert.Probe.τ).loc Cert.Probe.main_v2)),
      θ_run (Cert.Probe.defs (F := Bits)) (Cert.Probe.threads (F := Bits)) ⟨m, fun _ => 0, g⟩ (fun r => ∀ c : Dev Cert.Probe.nD,
          r.2.mem ((c.tc : Thread Cert.Probe.nD Cert.Probe.τ).loc Cert.Probe.main_v2) = v0 c
          ∧ r.2.mem ((c.tc : Thread Cert.Probe.nD Cert.Probe.τ).loc Cert.Probe.main_arg0) = m ((c.tc : Thread Cert.Probe.nD Cert.Probe.τ).loc Cert.Probe.main_arg0)
          ∧ r.2.mem ((c.tc : Thread Cert.Probe.nD Cert.Probe.τ).loc Cert.Probe.main_arg1) = m ((c.tc : Thread Cert.Probe.nD Cert.Probe.τ).loc Cert.Probe.main_arg1))
      ∧ θ_run (Cert.Zero.defs (F := Bits)) (onTc (τ := Cert.Zero.τ) (Cert.Zero.main (F := Bits))) ⟨m', fun _ => 0, g'⟩ (fun r => ∀ c : Dev Cert.Zero.nD,
          r.2.mem ((c.tc : Thread Cert.Zero.nD Cert.Zero.τ).loc Cert.Zero.main_cst) = v0 c
          ∧ r.2.mem ((c.tc : Thread Cert.Zero.nD Cert.Zero.τ).loc Cert.Zero.main_arg0) = m' ((c.tc : Thread Cert.Zero.nD Cert.Zero.τ).loc Cert.Zero.main_arg0)
          ∧ r.2.mem ((c.tc : Thread Cert.Zero.nD Cert.Zero.τ).loc Cert.Zero.main_arg1) = m' ((c.tc : Thread Cert.Zero.nD Cert.Zero.τ).loc Cert.Zero.main_arg1))

def algebraic_ProbeIdeal_ZeroIdeal [hProbeIdeal : Cert.ProbeIdeal.Facts] [hZeroIdeal : Cert.ZeroIdeal.Facts] : Prop :=
  ∀ (m : (ℓ : Loc Cert.ProbeIdeal.nD Cert.ProbeIdeal.τ Cert.ProbeIdeal.sig) → Buf (Elt Ideal) ℓ) (g : Dev Cert.ProbeIdeal.nD → PrngReg)
    (m' : (ℓ : Loc Cert.ZeroIdeal.nD Cert.ZeroIdeal.τ Cert.ZeroIdeal.sig) → Buf (Elt Ideal) ℓ) (g' : Dev Cert.ZeroIdeal.nD → PrngReg), Pre_ProbeIdeal m →
    (∀ c : Dev Cert.ProbeIdeal.nD,
      m' ((c.tc : Thread Cert.ZeroIdeal.nD Cert.ZeroIdeal.τ).loc Cert.ZeroIdeal.main_arg0) = m ((c.tc : Thread Cert.ProbeIdeal.nD Cert.ProbeIdeal.τ).loc Cert.ProbeIdeal.main_arg0)
      ∧ m' ((c.tc : Thread Cert.ZeroIdeal.nD Cert.ZeroIdeal.τ).loc Cert.ZeroIdeal.main_arg1) = m ((c.tc : Thread Cert.ProbeIdeal.nD Cert.ProbeIdeal.τ).loc Cert.ProbeIdeal.main_arg1)) →
    ∃ (v0 : (c : Dev Cert.ProbeIdeal.nD) → Buf (Elt Ideal) ((c.tc : Thread Cert.ProbeIdeal.nD Cert.ProbeIdeal.τ).loc Cert.ProbeIdeal.main_v2)),
      θ_run (Cert.ProbeIdeal.defs (F := Ideal)) (Cert.ProbeIdeal.threads (F := Ideal)) ⟨m, fun _ => 0, g⟩ (fun r => ∀ c : Dev Cert.ProbeIdeal.nD,
          r.2.mem ((c.tc : Thread Cert.ProbeIdeal.nD Cert.ProbeIdeal.τ).loc Cert.ProbeIdeal.main_v2) = v0 c
          ∧ r.2.mem ((c.tc : Thread Cert.ProbeIdeal.nD Cert.ProbeIdeal.τ).loc Cert.ProbeIdeal.main_arg0) = m ((c.tc : Thread Cert.ProbeIdeal.nD Cert.ProbeIdeal.τ).loc Cert.ProbeIdeal.main_arg0)
          ∧ r.2.mem ((c.tc : Thread Cert.ProbeIdeal.nD Cert.ProbeIdeal.τ).loc Cert.ProbeIdeal.main_arg1) = m ((c.tc : Thread Cert.ProbeIdeal.nD Cert.ProbeIdeal.τ).loc Cert.ProbeIdeal.main_arg1))
      ∧ θ_run (Cert.ZeroIdeal.defs (F := Ideal)) (onTc (τ := Cert.ZeroIdeal.τ) (Cert.ZeroIdeal.main (F := Ideal))) ⟨m', fun _ => 0, g'⟩ (fun r => ∀ c : Dev Cert.ZeroIdeal.nD,
          r.2.mem ((c.tc : Thread Cert.ZeroIdeal.nD Cert.ZeroIdeal.τ).loc Cert.ZeroIdeal.main_cst) = v0 c
          ∧ r.2.mem ((c.tc : Thread Cert.ZeroIdeal.nD Cert.ZeroIdeal.τ).loc Cert.ZeroIdeal.main_arg0) = m' ((c.tc : Thread Cert.ZeroIdeal.nD Cert.ZeroIdeal.τ).loc Cert.ZeroIdeal.main_arg0)
          ∧ r.2.mem ((c.tc : Thread Cert.ZeroIdeal.nD Cert.ZeroIdeal.τ).loc Cert.ZeroIdeal.main_arg1) = m' ((c.tc : Thread Cert.ZeroIdeal.nD Cert.ZeroIdeal.τ).loc Cert.ZeroIdeal.main_arg1))

def Claim : Prop :=
  ∃ (hKernel : Cert.Kernel.Facts) (hKernelIdeal : Cert.KernelIdeal.Facts) (hReferenceIdeal : Cert.ReferenceIdeal.Facts) (hProbe : Cert.Probe.Facts) (hProbeIdeal : Cert.ProbeIdeal.Facts) (hZeroIdeal : Cert.ZeroIdeal.Facts) (hZero : Cert.Zero.Facts) (hPre_in_range : Cert.Pre_in_range.Facts) (hPost_near_the_sines : Cert.Post_near_the_sines.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Probe (hProbe := hProbe)
    ∧ quiescent_ProbeIdeal (hProbeIdeal := hProbeIdeal)
    ∧ quiescent_ZeroIdeal (hZeroIdeal := hZeroIdeal)
    ∧ quiescent_Zero (hZero := hZero)
    ∧ preserves_Kernel_KernelIdeal
    ∧ algebraic_KernelIdeal_ReferenceIdeal_pre_in_range (hKernelIdeal := hKernelIdeal) (hReferenceIdeal := hReferenceIdeal) (hPre_in_range := hPre_in_range)
    ∧ holds_KernelIdeal_near_the_sines_pre_in_range (hKernelIdeal := hKernelIdeal) (hPre_in_range := hPre_in_range) (hPost_near_the_sines := hPost_near_the_sines)
    ∧ preserves_Probe_ProbeIdeal
    ∧ bitexact_Probe_Zero (hProbe := hProbe) (hZero := hZero)
    ∧ algebraic_ProbeIdeal_ZeroIdeal (hProbeIdeal := hProbeIdeal) (hZeroIdeal := hZeroIdeal)
-- ==== Post_near_the_sines.lean ====
abbrev S2000000 : Shape := ⟨1, ![2000000]⟩
abbrev S128 : Shape := ⟨1, ![128]⟩
abbrev S_ : Shape := ⟨0, ![]⟩

class Facts : Prop where
  slices_S2000000_S128_0 : S2000000.Slices ![0] S128
  slices_S2000000_S128_1000000 : S2000000.Slices ![1000000] S128
  bcast_S_S128 : S_.BroadcastsInDim S128 (![] : Fin 0 → Fin S128.rank)
  reducesTo_S128_S_d0 : S128.ReducesTo [0] S_
  h_S_ : 0 < S_.numel

variable [Facts]

def fn_part1 {F : FTy → Type} [FloatOps F] (main_v19 : FVec F S_ .f32) : IVec S_ 1 :=
  let main_v20 : FVec F S_ .f32 := Host.absf main_v19
  let main_cst_3 : FVec F S_ .f32 := constant S_ .f32 0x38800000#32
  let main_v21 : IVec S_ 1 := cmpf .ole main_v20 main_cst_3
  main_v21

def fn {F : FTy → Type} [FloatOps F] (main_arg0 : FVec F S2000000 .f32) (main_arg1 : IVec S128 1) (main_arg2 : FVec F S_ .f32) : IVec S_ 1 :=
  let main_cst : FVec F S_ .f32 := constant S_ .f32 0xBF800000#32
  let main_v0 : FVec F S_ .f32 := Host.acos main_cst
  let main_v1 : FVec F S128 .f32 := (extractStridedSlice S128 ![0] · slices_S2000000_S128_0) main_arg0
  let main_v2 : FVec F S128 .f32 := (extractStridedSlice S128 ![1000000] · slices_S2000000_S128_1000000) main_arg0
  let main_v3 : FVec F S128 .f32 := uitofp .f32 main_arg1
  let main_v4 : FVec F S128 .f32 := broadcastInDim S128 ![] bcast_S_S128 main_v0
  let main_v5 : FVec F S128 .f32 := mulf main_v4 main_v1
  let main_cst_0 : FVec F S_ .f32 := constant S_ .f32 0x41800000#32
  let main_v6 : FVec F S128 .f32 := broadcastInDim S128 ![] bcast_S_S128 main_cst_0
  let main_v7 : FVec F S128 .f32 := Host.divf main_v5 main_v6
  let main_v8 : FVec F S128 .f32 := Host.sin main_v7
  let main_v9 : FVec F S128 .f32 := mulf main_v8 main_v8
  let main_v10 : FVec F S128 .f32 := broadcastInDim S128 ![] bcast_S_S128 main_v0
  let main_v11 : FVec F S128 .f32 := mulf main_v10 main_v2
  let main_cst_1 : FVec F S_ .f32 := constant S_ .f32 0x41800000#32
  let main_v12 : FVec F S128 .f32 := broadcastInDim S128 ![] bcast_S_S128 main_cst_1
  let main_v13 : FVec F S128 .f32 := Host.divf main_v11 main_v12
  let main_v14 : FVec F S128 .f32 := Host.sin main_v13
  let main_v15 : FVec F S128 .f32 := mulf main_v14 main_v14
  let main_v16 : FVec F S128 .f32 := addf main_v9 main_v15
  let main_v17 : FVec F S128 .f32 := mulf main_v3 main_v16
  let main_cst_2 : FVec F S_ .f32 := constant S_ .f32 0x00000000#32
  let main_v18 : FVec F S_ .f32 := (fun x v => Host.reduceAdd x v reducesTo_S128_S_d0 h_S_) main_v17 main_cst_2
  let main_v19 : FVec F S_ .f32 := subf main_arg2 main_v18
  fn_part1 (F := F) main_v19
-- ==== Pre_in_range.lean ====
abbrev S2000000 : Shape := ⟨1, ![2000000]⟩
abbrev S128 : Shape := ⟨1, ![128]⟩
abbrev S_ : Shape := ⟨0, ![]⟩

class Facts : Prop where
  slices_S2000000_S128_0 : S2000000.Slices ![0] S128
  bcast_S_S128 : S_.BroadcastsInDim S128 (![] : Fin 0 → Fin S128.rank)
  slices_S2000000_S128_1000000 : S2000000.Slices ![1000000] S128

variable [Facts]

def fn {F : FTy → Type} [FloatOps F] (main_arg0 : FVec F S2000000 .f32) (main_arg1 : IVec S128 1) : IVec S128 1 :=
  let main_v0 : FVec F S128 .f32 := (extractStridedSlice S128 ![0] · slices_S2000000_S128_0) main_arg0
  let main_v1 : FVec F S128 .f32 := Host.absf main_v0
  let main_cst : FVec F S_ .f32 := constant S_ .f32 0x51000000#32
  let main_v2 : FVec F S128 .f32 := broadcastInDim S128 ![] bcast_S_S128 main_cst
  let main_v3 : IVec S128 1 := cmpf .olt main_v1 main_v2
  let main_v4 : FVec F S128 .f32 := (extractStridedSlice S128 ![1000000] · slices_S2000000_S128_1000000) main_arg0
  let main_v5 : FVec F S128 .f32 := Host.absf main_v4
  let main_cst_0 : FVec F S_ .f32 := constant S_ .f32 0x51000000#32
  let main_v6 : FVec F S128 .f32 := broadcastInDim S128 ![] bcast_S_S128 main_cst_0
  let main_v7 : IVec S128 1 := cmpf .olt main_v5 main_v6
  let main_v8 : IVec S128 1 := andi main_v3 main_v7
  main_v8
-- ==== Kernel.lean ====
abbrev S2000000 : Shape := ⟨1, ![2000000]⟩
abbrev S128 : Shape := ⟨1, ![128]⟩
abbrev S32x4 : Shape := ⟨2, ![32, 4]⟩
abbrev S32 : Shape := ⟨1, ![32]⟩
abbrev S16 : Shape := ⟨1, ![16]⟩
abbrev S_ : Shape := ⟨0, ![]⟩
abbrev S1 : Shape := ⟨1, ![1]⟩

abbrev nBuf : Table → Nat
  | .hbm => 8
  | .local .scVector .vmem => 4
  | _ => 0

abbrev bufTy : (tb : Table) → Fin (nBuf tb) → BufTy
  | .hbm, ⟨0, _⟩ => ⟨S2000000, .f32⟩
  | .hbm, ⟨1, _⟩ => ⟨S128, .i1⟩
  | .hbm, ⟨2, _⟩ => ⟨S128, .i8⟩
  | .hbm, ⟨3, _⟩ => ⟨S32x4, .i8⟩
  | .hbm, ⟨4, _⟩ => ⟨S32, .i32⟩
  | .hbm, ⟨5, _⟩ => ⟨S16, .f32⟩
  | .hbm, ⟨6, _⟩ => ⟨S1, .f32⟩
  | .hbm, ⟨7, _⟩ => ⟨S_, .f32⟩
  | .local .scVector .vmem, ⟨0, _⟩ => ⟨S128, .f32⟩
  | .local .scVector .vmem, ⟨1, _⟩ => ⟨S128, .f32⟩
  | .local .scVector .vmem, ⟨2, _⟩ => ⟨S32, .i32⟩
  | .local .scVector .vmem, ⟨3, _⟩ => ⟨S16, .f32⟩
  | _, _ => ⟨S2000000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_arg0_scv : Ref sig .scVector := ⟨.hbm, 0, rfl⟩
abbrev main_v2_scv : Ref sig .scVector := ⟨.hbm, 4, rfl⟩
abbrev main_v3_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_chk1 (i : grid0.Coords) (v22 : IVec S16 32) : Prop :=
  (∀ (k0_h1 : k0_cond1 i = 1#1), ∀ a x, ((![v22] : Fin 1 → IVec S16 32) a x).toNat < S32.size a)
theorem k0_idx1_inb : ∀ (i : grid0.Coords) (v22 : IVec S16 32) (k0_hw1 : k0_chk1 i v22), ∀ (k0_h1 : k0_cond1 i = 1#1), ∀ a x, ((![v22] : Fin 1 → IVec S16 32) a x).toNat < S32.size a := fun i v22 k0_hw1 k0_h1 => k0_hw1 k0_h1

def k0_chk2 (i : grid0.Coords) (v110 : IVec S16 32) : Prop :=
  (∀ (k0_h1 : k0_cond1 i = 1#1), ∀ a x, ((![v110] : Fin 1 → IVec S16 32) a x).toNat < S32.size a)
theorem k0_idx2_inb : ∀ (i : grid0.Coords) (v110 : IVec S16 32) (k0_hw2 : k0_chk2 i v110), ∀ (k0_h1 : k0_cond1 i = 1#1), ∀ a x, ((![v110] : Fin 1 → IVec S16 32) a x).toNat < S32.size a := fun i v110 k0_hw2 k0_h1 => k0_hw2 k0_h1

def k0_chk3 (i : grid0.Coords) (v198 : IVec S16 32) : Prop :=
  (∀ (k0_h1 : k0_cond1 i = 1#1), ∀ a x, ((![v198] : Fin 1 → IVec S16 32) a x).toNat < S32.size a)
theorem k0_idx3_inb : ∀ (i : grid0.Coords) (v198 : IVec S16 32) (k0_hw3 : k0_chk3 i v198), ∀ (k0_h1 : k0_cond1 i = 1#1), ∀ a x, ((![v198] : Fin 1 → IVec S16 32) a x).toNat < S32.size a := fun i v198 k0_hw3 k0_h1 => k0_hw3 k0_h1

def k0_chk4 (i : grid0.Coords) (v286 : IVec S16 32) : Prop :=
  (∀ (k0_h1 : k0_cond1 i = 1#1), ∀ a x, ((![v286] : Fin 1 → IVec S16 32) a x).toNat < S32.size a)
theorem k0_idx4_inb : ∀ (i : grid0.Coords) (v286 : IVec S16 32) (k0_hw4 : k0_chk4 i v286), ∀ (k0_h1 : k0_cond1 i = 1#1), ∀ a x, ((![v286] : Fin 1 → IVec S16 32) a x).toNat < S32.size a := fun i v286 k0_hw4 k0_h1 => k0_hw4 k0_h1

def k0_chk5 (i : grid0.Coords) (v374 : IVec S16 32) : Prop :=
  (∀ (k0_h1 : k0_cond1 i = 1#1), ∀ a x, ((![v374] : Fin 1 → IVec S16 32) a x).toNat < S32.size a)
theorem k0_idx5_inb : ∀ (i : grid0.Coords) (v374 : IVec S16 32) (k0_hw5 : k0_chk5 i v374), ∀ (k0_h1 : k0_cond1 i = 1#1), ∀ a x, ((![v374] : Fin 1 → IVec S16 32) a x).toNat < S32.size a := fun i v374 k0_hw5 k0_h1 => k0_hw5 k0_h1

def k0_chk6 (i : grid0.Coords) (v462 : IVec S16 32) : Prop :=
  (∀ (k0_h1 : k0_cond1 i = 1#1), ∀ a x, ((![v462] : Fin 1 → IVec S16 32) a x).toNat < S32.size a)
theorem k0_idx6_inb : ∀ (i : grid0.Coords) (v462 : IVec S16 32) (k0_hw6 : k0_chk6 i v462), ∀ (k0_h1 : k0_cond1 i = 1#1), ∀ a x, ((![v462] : Fin 1 → IVec S16 32) a x).toNat < S32.size a := fun i v462 k0_hw6 k0_h1 => k0_hw6 k0_h1

def k0_chk7 (i : grid0.Coords) (v550 : IVec S16 32) : Prop :=
  (∀ (k0_h1 : k0_cond1 i = 1#1), ∀ a x, ((![v550] : Fin 1 → IVec S16 32) a x).toNat < S32.size a)
theorem k0_idx7_inb : ∀ (i : grid0.Coords) (v550 : IVec S16 32) (k0_hw7 : k0_chk7 i v550), ∀ (k0_h1 : k0_cond1 i = 1#1), ∀ a x, ((![v550] : Fin 1 → IVec S16 32) a x).toNat < S32.size a := fun i v550 k0_hw7 k0_h1 => k0_hw7 k0_h1

def k0_chk8 (i : grid0.Coords) (v638 : IVec S16 32) : Prop :=
  (∀ (k0_h1 : k0_cond1 i = 1#1), ∀ a x, ((![v638] : Fin 1 → IVec S16 32) a x).toNat < S32.size a)
theorem k0_idx8_inb : ∀ (i : grid0.Coords) (v638 : IVec S16 32) (k0_hw8 : k0_chk8 i v638), ∀ (k0_h1 : k0_cond1 i = 1#1), ∀ a x, ((![v638] : Fin 1 → IVec S16 32) a x).toNat < S32.size a := fun i v638 k0_hw8 k0_h1 => k0_hw8 k0_h1

def k0_chk9 (i : grid0.Coords) (v727 : IVec S16 32) : Prop :=
  (∀ (k0_h1 : k0_cond1 i = 1#1), ∀ a x, ((![v727] : Fin 1 → IVec S16 32) a x).toNat < S16.size a)
theorem k0_idx9_inb : ∀ (i : grid0.Coords) (v727 : IVec S16 32) (k0_hw9 : k0_chk9 i v727), ∀ (k0_h1 : k0_cond1 i = 1#1), ∀ a x, ((![v727] : Fin 1 → IVec S16 32) a x).toNat < S16.size a := fun i v727 k0_hw9 k0_h1 => k0_hw9 k0_h1

def k0_chk10 (i : grid0.Coords) (v734 : IVec S16 32) : Prop :=
  (∀ (k0_h1 : k0_cond1 i = 1#1), ∀ a x, ((![v734] : Fin 1 → IVec S16 32) a x).toNat < S16.size a)
theorem k0_idx10_inb : ∀ (i : grid0.Coords) (v734 : IVec S16 32) (k0_hw10 : k0_chk10 i v734), ∀ (k0_h1 : k0_cond1 i = 1#1), ∀ a x, ((![v734] : Fin 1 → IVec S16 32) a x).toNat < S16.size a := fun i v734 k0_hw10 k0_h1 => k0_hw10 k0_h1

def k0_chk11 (i : grid0.Coords) (v741 : IVec S16 32) : Prop :=
  (∀ (k0_h1 : k0_cond1 i = 1#1), ∀ a x, ((![v741] : Fin 1 → IVec S16 32) a x).toNat < S16.size a)
theorem k0_idx11_inb : ∀ (i : grid0.Coords) (v741 : IVec S16 32) (k0_hw11 : k0_chk11 i v741), ∀ (k0_h1 : k0_cond1 i = 1#1), ∀ a x, ((![v741] : Fin 1 → IVec S16 32) a x).toNat < S16.size a := fun i v741 k0_hw11 k0_h1 => k0_hw11 k0_h1

def k0_chk12 (i : grid0.Coords) (v748 : IVec S16 32) : Prop :=
  (∀ (k0_h1 : k0_cond1 i = 1#1), ∀ a x, ((![v748] : Fin 1 → IVec S16 32) a x).toNat < S16.size a)
theorem k0_idx12_inb : ∀ (i : grid0.Coords) (v748 : IVec S16 32) (k0_hw12 : k0_chk12 i v748), ∀ (k0_h1 : k0_cond1 i = 1#1), ∀ a x, ((![v748] : Fin 1 → IVec S16 32) a x).toNat < S16.size a := fun i v748 k0_hw12 k0_h1 => k0_hw12 k0_h1
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 1 | ⟨_ + 1, h⟩ => absurd h (Nat.not_lt.2 (Nat.le_add_left _ _))
-- ==== KernelIdeal.lean ====
variable {F : FTy → Type} [FloatOps F] [Named F]
def κ : String → Option EReal := fun
  | "c1" => some ((-1 / 6 : ℝ) : EReal)
  | "c2" => some ((1 / 120 : ℝ) : EReal)
  | "c3" => some ((-1 / 5040 : ℝ) : EReal)
  | "c4" => some ((1 / 362880 : ℝ) : EReal)
  | "c5" => some ((-1 / 39916800 : ℝ) : EReal)
  | "pi" => some ((Real.pi : ℝ) : EReal)
  | _ => none
-- ==== ReferenceIdeal.lean ====
abbrev S2000000 : Shape := ⟨1, ![2000000]⟩
abbrev S128 : Shape := ⟨1, ![128]⟩
abbrev S_ : Shape := ⟨0, ![]⟩

abbrev nBuf : Space → Nat
  | .hbm => 163
  | .vmem => 0
  | .smem => 0
  | _ => 0

abbrev hbmTy0_0 (i : Nat) : BufTy := match i % 128 with
  | 0 => ⟨S2000000, .f32⟩
  | 1 => ⟨S128, .i1⟩
  | 2 => ⟨S_, .f32⟩
  | 3 => ⟨S_, .f32⟩
  | 4 => ⟨S128, .f32⟩
  | 5 => ⟨S128, .f32⟩
  | 6 => ⟨S128, .f32⟩
  | 7 => ⟨S128, .f32⟩
  | 8 => ⟨S128, .f32⟩
  | 9 => ⟨S_, .f32⟩
  | 10 => ⟨S128, .f32⟩
  | 11 => ⟨S128, .f32⟩
  | 12 => ⟨S_, .f32⟩
  | 13 => ⟨S_, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S_, .f32⟩
  | 21 => ⟨S128, .f32⟩
  | 22 => ⟨S128, .f32⟩
  | 23 => ⟨S_, .f32⟩
  | 24 => ⟨S128, .f32⟩
  | 25 => ⟨S128, .f32⟩
  | 26 => ⟨S_, .f32⟩
  | 27 => ⟨S128, .f32⟩
  | 28 => ⟨S128, .f32⟩
  | 29 => ⟨S128, .f32⟩
  | 30 => ⟨S128, .f32⟩
  | 31 => ⟨S_, .f32⟩
  | 32 => ⟨S128, .f32⟩
  | 33 => ⟨S128, .f32⟩
  | 34 => ⟨S_, .f32⟩
  | 35 => ⟨S128, .f32⟩
  | 36 => ⟨S128, .f32⟩
  | 37 => ⟨S128, .f32⟩
  | 38 => ⟨S128, .f32⟩
  | 39 => ⟨S128, .f32⟩
  | 40 => ⟨S128, .f32⟩
  | 41 => ⟨S_, .f32⟩
  | 42 => ⟨S128, .f32⟩
  | 43 => ⟨S128, .f32⟩
  | 44 => ⟨S_, .f32⟩
  | 45 => ⟨S128, .f32⟩
  | 46 => ⟨S128, .f32⟩
  | 47 => ⟨S128, .f32⟩
  | 48 => ⟨S128, .f32⟩
  | 49 => ⟨S128, .f32⟩
  | 50 => ⟨S128, .f32⟩
  | 51 => ⟨S128, .f32⟩
  | 52 => ⟨S_, .f32⟩
  | 53 => ⟨S128, .f32⟩
  | 54 => ⟨S128, .f32⟩
  | 55 => ⟨S_, .f32⟩
  | 56 => ⟨S128, .f32⟩
  | 57 => ⟨S128, .f32⟩
  | 58 => ⟨S128, .f32⟩
  | 59 => ⟨S128, .f32⟩
  | 60 => ⟨S128, .f32⟩
  | 61 => ⟨S128, .f32⟩
  | 62 => ⟨S128, .f32⟩
  | 63 => ⟨S_, .f32⟩
  | 64 => ⟨S128, .f32⟩
  | 65 => ⟨S128, .f32⟩
  | 66 => ⟨S_, .f32⟩
  | 67 => ⟨S128, .f32⟩
  | 68 => ⟨S128, .f32⟩
  | 69 => ⟨S128, .f32⟩
  | 70 => ⟨S128, .f32⟩
  | 71 => ⟨S128, .f32⟩
  | 72 => ⟨S128, .f32⟩
  | 73 => ⟨S128, .f32⟩
  | 74 => ⟨S128, .f32⟩
  | 75 => ⟨S_, .f32⟩
  | 76 => ⟨S128, .f32⟩
  | 77 => ⟨S128, .f32⟩
  | 78 => ⟨S_, .f32⟩
  | 79 => ⟨S128, .f32⟩
  | 80 => ⟨S128, .f32⟩
  | 81 => ⟨S128, .f32⟩
  | 82 => ⟨S128, .f32⟩
  | 83 => ⟨S128, .f32⟩
  | 84 => ⟨S128, .f32⟩
  | 85 => ⟨S_, .f32⟩
  | 86 => ⟨S128, .f32⟩
  | 87 => ⟨S128, .f32⟩
  | 88 => ⟨S_, .f32⟩
  | 89 => ⟨S_, .f32⟩
  | 90 => ⟨S128, .f32⟩
  | 91 => ⟨S128, .f32⟩
  | 92 => ⟨S128, .f32⟩
  | 93 => ⟨S128, .f32⟩
  | 94 => ⟨S128, .f32⟩
  | 95 => ⟨S128, .f32⟩
  | 96 => ⟨S_, .f32⟩
  | 97 => ⟨S128, .f32⟩
  | 98 => ⟨S128, .f32⟩
  | 99 => ⟨S_, .f32⟩
  | 100 => ⟨S128, .f32⟩
  | 101 => ⟨S128, .f32⟩
  | 102 => ⟨S_, .f32⟩
  | 103 => ⟨S128, .f32⟩
  | 104 => ⟨S128, .f32⟩
  | 105 => ⟨S128, .f32⟩
  | 106 => ⟨S128, .f32⟩
  | 107 => ⟨S_, .f32⟩
  | 108 => ⟨S128, .f32⟩
  | 109 => ⟨S128, .f32⟩
  | 110 => ⟨S_, .f32⟩
  | 111 => ⟨S128, .f32⟩
  | 112 => ⟨S128, .f32⟩
  | 113 => ⟨S128, .f32⟩
  | 114 => ⟨S128, .f32⟩
  | 115 => ⟨S128, .f32⟩
  | 116 => ⟨S128, .f32⟩
  | 117 => ⟨S_, .f32⟩
  | 118 => ⟨S128, .f32⟩
  | 119 => ⟨S128, .f32⟩
  | 120 => ⟨S_, .f32⟩
  | 121 => ⟨S128, .f32⟩
  | 122 => ⟨S128, .f32⟩
  | 123 => ⟨S128, .f32⟩
  | 124 => ⟨S128, .f32⟩
  | 125 => ⟨S128, .f32⟩
  | 126 => ⟨S128, .f32⟩
  | 127 => ⟨S128, .f32⟩
  | _ => ⟨S2000000, .f32⟩

abbrev hbmTy0_1 (i : Nat) : BufTy := match i % 128 with
  | 0 => ⟨S_, .f32⟩
  | 1 => ⟨S128, .f32⟩
  | 2 => ⟨S128, .f32⟩
  | 3 => ⟨S_, .f32⟩
  | 4 => ⟨S128, .f32⟩
  | 5 => ⟨S128, .f32⟩
  | 6 => ⟨S128, .f32⟩
  | 7 => ⟨S128, .f32⟩
  | 8 => ⟨S128, .f32⟩
  | 9 => ⟨S128, .f32⟩
  | 10 => ⟨S128, .f32⟩
  | 11 => ⟨S_, .f32⟩
  | 12 => ⟨S128, .f32⟩
  | 13 => ⟨S128, .f32⟩
  | 14 => ⟨S_, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128, .f32⟩
  | 22 => ⟨S128, .f32⟩
  | 23 => ⟨S_, .f32⟩
  | 24 => ⟨S128, .f32⟩
  | 25 => ⟨S128, .f32⟩
  | 26 => ⟨S_, .f32⟩
  | 27 => ⟨S128, .f32⟩
  | 28 => ⟨S128, .f32⟩
  | 29 => ⟨S128, .f32⟩
  | 30 => ⟨S128, .f32⟩
  | 31 => ⟨S128, .f32⟩
  | 32 => ⟨S128, .f32⟩
  | 33 => ⟨S_, .f32⟩
  | 34 => ⟨S_, .f32⟩
  | _ => ⟨S2000000, .f32⟩

abbrev hbmTy (i : Nat) : BufTy := match i / 128 with
  | 0 => hbmTy0_0 i
  | 1 => hbmTy0_1 i
  | _ => ⟨S2000000, .f32⟩

abbrev bufTy : (tb : Table) → Fin (tcTables nBuf tb) → BufTy
  | .hbm, ⟨i, _⟩ => hbmTy i
  | _, _ => ⟨S2000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_cst_8 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_9 : Ref sig .tc := ⟨.hbm, 52, rfl⟩
abbrev main_v40 : Ref sig .tc := ⟨.hbm, 53, rfl⟩
abbrev main_v41 : Ref sig .tc := ⟨.hbm, 54, rfl⟩
abbrev main_cst_10 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_11 : Ref sig .tc := ⟨.hbm, 63, rfl⟩
abbrev main_v49 : Ref sig .tc := ⟨.hbm, 64, rfl⟩
abbrev main_v50 : Ref sig .tc := ⟨.hbm, 65, rfl⟩
abbrev main_cst_12 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_13 : Ref sig .tc := ⟨.hbm, 75, rfl⟩
abbrev main_v59 : Ref sig .tc := ⟨.hbm, 76, rfl⟩
abbrev main_v60 : Ref sig .tc := ⟨.hbm, 77, rfl⟩
abbrev main_cst_14 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_15 : Ref sig .tc := ⟨.hbm, 85, rfl⟩
abbrev main_v67 : Ref sig .tc := ⟨.hbm, 86, rfl⟩
abbrev main_v68 : Ref sig .tc := ⟨.hbm, 87, rfl⟩
abbrev main_cst_16 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_17 : Ref sig .tc := ⟨.hbm, 96, rfl⟩
abbrev main_v76 : Ref sig .tc := ⟨.hbm, 97, rfl⟩
abbrev main_v77 : Ref sig .tc := ⟨.hbm, 98, rfl⟩
abbrev main_cst_18 : Ref sig .tc := ⟨.hbm, 99, rfl⟩
abbrev main_v78 : Ref sig .tc := ⟨.hbm, 100, rfl⟩
abbrev main_v79 : Ref sig .tc := ⟨.hbm, 101, rfl⟩
abbrev main_cst_19 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_20 : Ref sig .tc := ⟨.hbm, 107, rfl⟩
abbrev main_v84 : Ref sig .tc := ⟨.hbm, 108, rfl⟩
abbrev main_v85 : Ref sig .tc := ⟨.hbm, 109, rfl⟩
abbrev main_cst_21 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_22 : Ref sig .tc := ⟨.hbm, 117, rfl⟩
abbrev main_v92 : Ref sig .tc := ⟨.hbm, 118, rfl⟩
abbrev main_v93 : Ref sig .tc := ⟨.hbm, 119, rfl⟩
abbrev main_cst_23 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_cst_24 : Ref sig .tc := ⟨.hbm, 128, rfl⟩
abbrev main_v101 : Ref sig .tc := ⟨.hbm, 129, rfl⟩
abbrev main_v102 : Ref sig .tc := ⟨.hbm, 130, rfl⟩
abbrev main_cst_25 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_26 : Ref sig .tc := ⟨.hbm, 139, rfl⟩
abbrev main_v110 : Ref sig .tc := ⟨.hbm, 140, rfl⟩
abbrev main_v111 : Ref sig .tc := ⟨.hbm, 141, rfl⟩
abbrev main_cst_27 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_cst_28 : Ref sig .tc := ⟨.hbm, 151, rfl⟩
abbrev main_v120 : Ref sig .tc := ⟨.hbm, 152, rfl⟩
abbrev main_v121 : Ref sig .tc := ⟨.hbm, 153, rfl⟩
abbrev main_cst_29 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_cst_30 : Ref sig .tc := ⟨.hbm, 161, rfl⟩
abbrev main_v128 : Ref sig .tc := ⟨.hbm, 162, rfl⟩

abbrev nD : Nat := 1
abbrev τ : Topo := Topo.v7x

variable {F : FTy → Type} [FloatOps F]
-- ==== Probe.lean ====
abbrev S2000000 : Shape := ⟨1, ![2000000]⟩
abbrev S128 : Shape := ⟨1, ![128]⟩
abbrev S8 : Shape := ⟨1, ![8]⟩
abbrev S1 : Shape := ⟨1, ![1]⟩
abbrev S_ : Shape := ⟨0, ![]⟩

abbrev nBuf : Table → Nat
  | .hbm => 5
  | .local .scScalar .smem => 1
  | _ => 0

abbrev bufTy : (tb : Table) → Fin (nBuf tb) → BufTy
  | .hbm, ⟨0, _⟩ => ⟨S2000000, .f32⟩
  | .hbm, ⟨1, _⟩ => ⟨S128, .i1⟩
  | .hbm, ⟨2, _⟩ => ⟨S8, .f32⟩
  | .hbm, ⟨3, _⟩ => ⟨S1, .f32⟩
  | .hbm, ⟨4, _⟩ => ⟨S_, .f32⟩
  | .local .scScalar .smem, ⟨0, _⟩ => ⟨S8, .f32⟩
  | _, _ => ⟨S2000000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 1 → Bool
  | ⟨0, _⟩ => false
  | _ => false

abbrev sig : RefSig :=
  ofTables nBuf rfl bufTy 4 1 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scs : Ref sig .scScalar := ⟨.hbm, 2, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Zero.lean ====
abbrev S2000000 : Shape := ⟨1, ![2000000]⟩
abbrev S128 : Shape := ⟨1, ![128]⟩
abbrev S_ : Shape := ⟨0, ![]⟩

abbrev nBuf : Space → Nat
  | .hbm => 3
  | .vmem => 0
  | .smem => 0
  | _ => 0

abbrev bufTy : (tb : Table) → Fin (tcTables nBuf tb) → BufTy
  | .hbm, ⟨0, _⟩ => ⟨S2000000, .f32⟩
  | .hbm, ⟨1, _⟩ => ⟨S128, .i1⟩
  | .hbm, ⟨2, _⟩ => ⟨S_, .f32⟩
  | _, _ => ⟨S2000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩

abbrev nD : Nat := 1
abbrev τ : Topo := Topo.v7x

variable {F : FTy → Type} [FloatOps F]
-- ==== Proof.Value.lean ====
/-
  What the vector subcore computes, as a plain function of `pos` and of the mask words, over any float instance: the
  square of the polynomial sine of sixteen lanes, one chunk's contribution, the eight chunks' accumulator, and the four
  folds that leave every lane holding the sum. The printed payloads are these functions by definition.
-/
module

public import proofs.«01_k».proof.Defs
public import proofs.«01_k».proof.Proof.Gen.KernelIdeal
public import proofs.«01_k».proof.Proof.Gen.KernelIdeal.Skeleton

@[expose] public section

noncomputable section

namespace Cert.Proof.Loss

open Cert.KernelIdeal Cert.KernelIdeal.Gen
open Idealize.ShloMosaic

variable {F : FTy → Type}

/-! ## The gathers' index words -/

/-- The lane numbers `0 … 15`. -/
abbrev lanes : IVec S16 32 := iota .scVector S16 32 [0] iota_S16_d0_w32_scVector

/-- The mask words that chunk `i` reads: lane `l` reads word `4 i + l / 4`. -/
def wordIx : Fin 8 → IVec S16 32
  | 0 => k0_pay10 | 1 => k0_pay20 k0_pay7 | 2 => k0_pay29 k0_pay7 | 3 => k0_pay38 k0_pay7
  | 4 => k0_pay47 k0_pay7 | 5 => k0_pay55 k0_pay7 | 6 => k0_pay62 k0_pay7 | 7 => k0_pay69 k0_pay7

/-- The lanes that fold `i` adds: lane `l` reads lane `(l + 8 / 2 ^ i) mod 16`. -/
def foldIx : Fin 4 → IVec S16 32
  | 0 => k0_pay79 lanes | 1 => k0_pay1 (k0_pay81 lanes) | 2 => k0_pay3 lanes | 3 => k0_pay5 lanes

/-- What the word a lane reads is, for every chunk and lane. -/
theorem wordIx_toNat : ∀ (i : Fin 8) (x : S16.Idx), (wordIx i x).toNat = 4 * i.val + (x 0).val / 4 := by decide +kernel

/-- What the lane a fold reads is, for every fold and lane. -/
theorem foldIx_toNat : ∀ (i : Fin 4) (x : S16.Idx), (foldIx i x).toNat = ((x 0).val + 8 / 2 ^ i.val) % 16 := by decide +kernel

/-- Every mask word named lies among the 32. -/
theorem wordIx_inb (i : Fin 8) : ∀ a x, ((![wordIx i] : Fin 1 → IVec S16 32) a x).toNat < S32.size a := by
  intro a x; obtain rfl : a = 0 := Subsingleton.elim _ _
  show (wordIx i x).toNat < 32
  rw [wordIx_toNat]
  have h1 := i.isLt; have h2 : (x 0).val < 16 := (x 0).isLt
  omega

/-- Every lane named lies among the 16. -/
theorem foldIx_inb (i : Fin 4) : ∀ a x, ((![foldIx i] : Fin 1 → IVec S16 32) a x).toNat < S16.size a := by
  intro a x; obtain rfl : a = 0 := Subsingleton.elim _ _
  show (foldIx i x).toNat < 16
  rw [foldIx_toNat]; omega

/-! ## The pieces -/

/-- Sixteen consecutive elements of `pos`, from element `o` on. -/
def rowAt (fx : FVec F S2000000 .f32) (o : ℕ) (h : o + 16 ≤ 2000000) : FVec F S16 .f32 :=
  fun l => fx fun | 0 => ⟨o + (l 0).val, show o + (l 0).val < 2000000 from Nat.lt_of_lt_of_le (Nat.add_lt_add_left (show (l 0).val < 16 from (l 0).isLt) o) h⟩

variable [FloatOps F] [Named F]

/-- The reduced argument: `v / 16` less its integral part, brought to within a half by one correction. -/
def reduced (v : FVec F S16 .f32) : FVec F S16 .f32 :=
  let u := mulf v (broadcast S16 (Scalar.ofBits .f32 0x3D800000#32))
  let r := subf u (sitofp .f32 (fptosi 32 u))
  addf (subf r (select (cmpf .ogt r (broadcast S16 (Scalar.ofBits .f32 0x3F000000#32)))
      (broadcast S16 (Scalar.ofBits .f32 0x3F800000#32)) (broadcast S16 (Scalar.ofBits .f32 0x00000000#32))))
    (select (cmpf .olt r (broadcast S16 (Scalar.ofBits .f32 0xBF000000#32)))
      (broadcast S16 (Scalar.ofBits .f32 0x3F800000#32)) (broadcast S16 (Scalar.ofBits .f32 0x00000000#32)))

/-- The sine's polynomial of degree eleven at `t`, by Horner's rule in `t * t`. -/
def poly (t : FVec F S16 .f32) : FVec F S16 .f32 :=
  let q := mulf t t
  mulf t (addf (broadcast S16 (Scalar.ofBits .f32 0x3F800000#32))
    (mulf q (addf (broadcast S16 (Named.named κ "c1" 0xBE2AAAAB#32))
      (mulf q (addf (broadcast S16 (Named.named κ "c2" 0x3C088889#32))
        (mulf q (addf (broadcast S16 (Named.named κ "c3" 0xB9500D01#32))
          (mulf q (addf (broadcast S16 (Named.named κ "c4" 0x3638EF1D#32))
            (mulf q (broadcast S16 (Named.named κ "c5" 0xB2D7322B#32))))))))))))

/-- The squared sine of `π v / 16` as the kernel computes it. -/
def sin2 (v : FVec F S16 .f32) : FVec F S16 .f32 :=
  let s := poly (mulf (broadcast S16 (Named.named κ "pi" 0x40490FDB#32)) (reduced v))
  mulf s s

omit [Named F] in
/-- The mask of sixteen lanes from the words they read: bit 0 of byte `l mod 4`, as a number. -/
def maskOf (w : IVec S16 32) : FVec F S16 .f32 :=
  sitofp .f32 (andi (shrsi w k0_pay8) (broadcast S16 1#32))

/-- A chunk adds its masked squares to the accumulator. -/
def addChunk (acc x y : FVec F S16 .f32) (w : IVec S16 32) : FVec F S16 .f32 :=
  addf acc (mulf (maskOf w) (addf (sin2 x) (sin2 y)))

/-! ## The printed payloads are these -/

theorem chunk0 (x y : FVec F S16 .f32) (w : IVec S16 32) :
    k0_pay19 k0_pay9 (k0_pay11 w) (k0_pay15 (k0_pay12 x) (k0_pay13 x) (FloatOps.ofBits .f32 0#32) k0_pay14) (k0_pay17 y) (k0_pay18 y)
      (FloatOps.ofBits .f32 1065353216#32) (FloatOps.ofBits .f32 0#32) = addChunk k0_pay9 x y w := rfl
theorem chunk1 (acc x y : FVec F S16 .f32) (w : IVec S16 32) :
    k0_pay28 acc (k0_pay21 k0_pay8 w) (k0_pay24 (k0_pay22 x) (k0_pay23 x) (FloatOps.ofBits .f32 1065353216#32) (FloatOps.ofBits .f32 0#32))
      (k0_pay26 y) (k0_pay27 y) (FloatOps.ofBits .f32 1065353216#32) = addChunk acc x y w := rfl
theorem chunk2 (acc x y : FVec F S16 .f32) (w : IVec S16 32) :
    k0_pay37 acc (k0_pay30 k0_pay8 w) (k0_pay33 (k0_pay31 x) (k0_pay32 x) (FloatOps.ofBits .f32 1065353216#32))
      (k0_pay35 y) (k0_pay36 y) = addChunk acc x y w := rfl
theorem chunk3 (acc x y : FVec F S16 .f32) (w : IVec S16 32) :
    k0_pay46 acc (k0_pay39 k0_pay8 w) (k0_pay42 (k0_pay40 x) (k0_pay41 x)) (k0_pay43 y) (k0_pay44 y) k0_pay45 = addChunk acc x y w := rfl
theorem chunk4 (acc x y : FVec F S16 .f32) (w : IVec S16 32) :
    k0_pay54 acc (k0_pay48 k0_pay8 w) (k0_pay51 (k0_pay49 x) k0_pay50) (k0_pay52 y) (k0_pay53 y)
      (FloatOps.ofBits .f32 3204448256#32) = addChunk acc x y w := rfl
theorem chunk5 (acc x y : FVec F S16 .f32) (w : IVec S16 32) :
    k0_pay61 acc (k0_pay56 k0_pay8 w) (k0_pay58 (k0_pay57 x) (FloatOps.ofBits .f32 1056964608#32)) (k0_pay59 y) (k0_pay60 y)
      = addChunk acc x y w := rfl
theorem chunk6 (acc x y : FVec F S16 .f32) (w : IVec S16 32) :
    k0_pay68 acc (k0_pay63 k0_pay8 w) (k0_pay65 (k0_pay64 x)) (k0_pay66 y) (k0_pay67 y) = addChunk acc x y w := rfl
theorem chunk7 (acc x y : FVec F S16 .f32) (w : IVec S16 32) :
    k0_pay78 acc (k0_pay70 k0_pay8 w) (k0_pay73 (k0_pay71 x) (k0_pay72 x)) (k0_pay74 y) (k0_pay75 y) k0_pay76 k0_pay77
      = addChunk acc x y w := rfl

/-! ## The whole task -/

/-- The mask words chunk `i` reads. -/
def words (fw : IVec S32 32) (i : Fin 8) : IVec S16 32 := loadIdx (F := F) (e := .i32) fw ![wordIx i] (wordIx_inb i)

/-- The accumulator after the first `n` chunks. -/
def accum (fx : FVec F S2000000 .f32) (fw : IVec S32 32) : (n : ℕ) → n ≤ 8 → FVec F S16 .f32
  | 0, _ => k0_pay9
  | n + 1, h => addChunk (accum fx fw n (Nat.le_of_succ_le h)) (rowAt fx (0 + 16 * n) (by omega)) (rowAt fx (1000000 + 16 * n) (by omega))
      (words (F := F) fw ⟨n, h⟩)

/-- A fold adds to every lane the lane it reads. -/
def fold (a : FVec F S16 .f32) (i : Fin 4) : FVec F S16 .f32 := addf a (loadIdx (e := .f32) a ![foldIx i] (foldIx_inb i))

/-- What the task leaves in the call's result. -/
def tileOut (fx : FVec F S2000000 .f32) (fw : IVec S32 32) : FVec F S16 .f32 :=
  fold (fold (fold (fold (accum fx fw 8 (Nat.le_refl 8)) 0) 1) 2) 3

end Cert.Proof.Loss

end
-- ==== Proof.Tile.lean ====
/-
  The task on the one vector subcore the call runs on: three fetches (the two coordinate windows of `pos` and the mask
  words) in flight together, their waits, eight chunks of sixteen lanes, the four folds through the accumulator's
  buffer, and the write-out. Stated over any float instance, with the value the task leaves in the result.
-/
module

public import proofs.«01_k».proof.Proof.Value
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the kernels' body table. -/
abbrev ΛP : Labels := Pipeline.Sig Λ₀ (Fin 0) fun p => (pcfgs (F := F) p).Adm
/-- The one SparseCore call's configuration. -/
abbrev K : SparseCore.Cfg τ sig (ΛP (F := F)) 1 := sc (F := F)
theorem nSub_zero : (K (F := F)).nSub 0 = 1 := rfl
/-- No loop variants are needed. -/
abbrev 𝒱₀ : Variants := Variants.none
abbrev 𝒱 : Variants := 𝒱₀.lift
abbrev v₀ : 𝒱.V := Sum.inl none

/-- The configuration's side conditions: four distinct launch semaphores, none scoped, nothing shared by tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev xLoc (d : Dev nD) : Loc nD τ sig := (SparseCore.T d).loc main_arg0
abbrev wLoc (d : Dev nD) : Loc nD τ sig := (SparseCore.T d).loc main_v2
abbrev oLoc (d : Dev nD) : Loc nD τ sig := (SparseCore.T d).loc main_v3

local notation "xV" => (Memref.whole Cert.KernelIdeal.main_arg0_scv : Memref Cert.KernelIdeal.sig Kind.scVector Space.hbm Cert.KernelIdeal.S2000000 EltTy.f32)
local notation "wV" => (Memref.whole Cert.KernelIdeal.main_v2_scv : Memref Cert.KernelIdeal.sig Kind.scVector Space.hbm Cert.KernelIdeal.S32 EltTy.i32)
local notation "oV" => (Memref.whole Cert.KernelIdeal.main_v3_scv : Memref Cert.KernelIdeal.sig Kind.scVector Space.hbm Cert.KernelIdeal.S16 EltTy.f32)
local notation "sX" => (Memref.whole Cert.KernelIdeal.cc0_scratch0 : Memref Cert.KernelIdeal.sig Kind.scVector Space.vmem Cert.KernelIdeal.S128 EltTy.f32)
local notation "sY" => (Memref.whole Cert.KernelIdeal.cc0_scratch1 : Memref Cert.KernelIdeal.sig Kind.scVector Space.vmem Cert.KernelIdeal.S128 EltTy.f32)
local notation "sM" => (Memref.whole Cert.KernelIdeal.cc0_scratch2 : Memref Cert.KernelIdeal.sig Kind.scVector Space.vmem Cert.KernelIdeal.S32 EltTy.i32)
local notation "sO" => (Memref.whole Cert.KernelIdeal.cc0_scratch3 : Memref Cert.KernelIdeal.sig Kind.scVector Space.vmem Cert.KernelIdeal.S16 EltTy.f32)

variable [FloatOps F] [Named F]

/-- `pos`, the mask words and the call's result, each held whole at the contents given. -/
abbrev xPts (d : Dev nD) (f : Buf (Elt F) (xLoc d)) : sProp 𝕄 := xLoc d ↦{fullShare} f
abbrev wPts (d : Dev nD) (f : Buf (Elt F) (wLoc d)) : sProp 𝕄 := wLoc d ↦{fullShare} f
abbrev oPts (d : Dev nD) (f : Buf (Elt F) (oLoc d)) : sProp 𝕄 := oLoc d ↦{fullShare} f

section Tile

variable (d : Dev nD) (L : grid0.Coords)

abbrev cV (L : grid0.Coords) : Fin τ.nSC := (L 0).castLE hcore0
abbrev jV (L : grid0.Coords) : Fin τ.nSub := (L 1).castLE hsub0

omit [FloatOps F] [Named F] in
theorem pts_xV (f : Buf (Elt F) (xLoc d)) :
    ((xV).view.loc (V d (cV L) (jV L)) ↦{fullShare} f : sProp 𝕄) = xLoc d ↦{fullShare} f := rfl
omit [FloatOps F] [Named F] in
theorem pts_wV (f : Buf (Elt F) (wLoc d)) :
    ((wV).view.loc (V d (cV L) (jV L)) ↦{fullShare} f : sProp 𝕄) = wLoc d ↦{fullShare} f := rfl
omit [FloatOps F] [Named F] in
theorem pts_oV (f : Buf (Elt F) (oLoc d)) :
    ((oV).view.loc (V d (cV L) (jV L)) ↦{fullShare} f : sProp 𝕄) = oLoc d ↦{fullShare} f := rfl
omit [FloatOps F] [Named F] in
theorem pts_sX (f : Buf (Elt F) ((V d (cV L) (jV L)).loc cc0_scratch0)) :
    ((sX).view.loc (V d (cV L) (jV L)) ↦{fullShare} f : sProp 𝕄) = (V d (cV L) (jV L)).loc cc0_scratch0 ↦{fullShare} f := rfl
omit [FloatOps F] [Named F] in
theorem pts_sY (f : Buf (Elt F) ((V d (cV L) (jV L)).loc cc0_scratch1)) :
    ((sY).view.loc (V d (cV L) (jV L)) ↦{fullShare} f : sProp 𝕄) = (V d (cV L) (jV L)).loc cc0_scratch1 ↦{fullShare} f := rfl
omit [FloatOps F] [Named F] in
theorem pts_sM (f : Buf (Elt F) ((V d (cV L) (jV L)).loc cc0_scratch2)) :
    ((sM).view.loc (V d (cV L) (jV L)) ↦{fullShare} f : sProp 𝕄) = (V d (cV L) (jV L)).loc cc0_scratch2 ↦{fullShare} f := rfl
omit [FloatOps F] [Named F] in
theorem pts_sO (f : Buf (Elt F) ((V d (cV L) (jV L)).loc cc0_scratch3)) :
    ((sO).view.loc (V d (cV L) (jV L)) ↦{fullShare} f : sProp 𝕄) = (V d (cV L) (jV L)).loc cc0_scratch3 ↦{fullShare} f := rfl

/-- The four transfer semaphores' cells on a subcore: the fetches of `x`, of `y`, of the mask words, and the write-out. -/
abbrev cell0 (d : Dev nD) (c : Fin τ.nSC) (i : Fin τ.nSub) : GSem nD τ sig := (V d c i, .dma cc0_scratch4.sem)
abbrev cell1 (d : Dev nD) (c : Fin τ.nSC) (i : Fin τ.nSub) : GSem nD τ sig := (V d c i, .dma cc0_scratch5.sem)
abbrev cell2 (d : Dev nD) (c : Fin τ.nSC) (i : Fin τ.nSub) : GSem nD τ sig := (V d c i, .dma cc0_scratch6.sem)
abbrev cell3 (d : Dev nD) (c : Fin τ.nSC) (i : Fin τ.nSub) : GSem nD τ sig := (V d c i, .dma cc0_scoped0.sem)

omit [FloatOps F] [Named F] in
/-- The four cells are among the subcore's own. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ bigSep (((((ownCells (V d (cV L) (jV L))).erase (cell0 d (cV L) (jV L))).erase (cell1 d (cV L) (jV L))).erase (cell2 d (cV L) (jV L))).erase (cell3 d (cV L) (jV L)))
              fun g => semVal g 0) := by
  unfold SparseCore.Cfg.ownSems0
  rw [SparseCore.bigSep_erase' ((mem_ownCells (g := cell0 d (cV L) (jV L))).mpr ⟨rfl, by
      show (SemLoc.dma cc0_scratch4.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scratch5.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc0_scratch6.sem : SemLoc sig).isScoped .scVector = true; decide⟩⟩⟩),
    SparseCore.bigSep_erase' (Finset.mem_erase.mpr ⟨by simp [cell2, cell3]; decide, Finset.mem_erase.mpr ⟨by simp [cell1, cell3]; decide, Finset.mem_erase.mpr ⟨by simp [cell0, cell3]; decide,
      (mem_ownCells (g := cell3 d (cV L) (jV L))).mpr ⟨rfl, by show (SemLoc.dma cc0_scoped0.sem : SemLoc sig).isScoped .scVector = true; decide⟩⟩⟩⟩)]

omit [FloatOps F] [Named F] in
/-- The four scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

/-! ## The guard and the gathers' index checks -/

/-- The kernel's guard holds: the grid's one subcore has number zero. -/
theorem guard : ∀ L : grid0.Coords, k0_cond1 L = 1#1 := by decide +kernel

theorem chk1 : k0_chk1 L k0_pay10 := fun _ => wordIx_inb 0
theorem chk2 : k0_chk2 L (k0_pay20 k0_pay7) := fun _ => wordIx_inb 1
theorem chk3 : k0_chk3 L (k0_pay29 k0_pay7) := fun _ => wordIx_inb 2
theorem chk4 : k0_chk4 L (k0_pay38 k0_pay7) := fun _ => wordIx_inb 3
theorem chk5 : k0_chk5 L (k0_pay47 k0_pay7) := fun _ => wordIx_inb 4
theorem chk6 : k0_chk6 L (k0_pay55 k0_pay7) := fun _ => wordIx_inb 5
theorem chk7 : k0_chk7 L (k0_pay62 k0_pay7) := fun _ => wordIx_inb 6
theorem chk8 : k0_chk8 L (k0_pay69 k0_pay7) := fun _ => wordIx_inb 7
theorem chk9 : k0_chk9 L (k0_pay79 lanes) := fun _ => foldIx_inb 0
theorem chk10 : k0_chk10 L (k0_pay1 (k0_pay81 lanes)) := fun _ => foldIx_inb 1
theorem chk11 : k0_chk11 L (k0_pay3 lanes) := fun _ => foldIx_inb 2
theorem chk12 : k0_chk12 L (k0_pay5 lanes) := fun _ => foldIx_inb 3

/-! ## What the loads and the gathers read -/

omit [FloatOps F] [Named F] in
/-- Sixteen elements of a scratch that a fetch filled from `pos` are sixteen elements of `pos`. -/
theorem load_x (fx : Buf (Elt F) (xLoc d)) (f0 : Buf (Elt F) ((V d (cV L) (jV L)).loc cc0_scratch0)) (b o : ℕ) (hb : ∀ a, (![b] : Fin 1 → ℕ) a + (![128] : Fin 1 → ℕ) a ≤ S2000000.size a)
    (hw : ∀ a, (Rect.unit (s := S2000000) ![b] ![128] hb).stride a = 1) (ho : ∀ a, (![o] : Fin 1 → ℕ) a + (![16] : Fin 1 → ℕ) a ≤ S128.size a) (h : b + o + 16 ≤ 2000000) :
    View.readAt (Elt F) (sX).view (Rect.unit (s := S128) ![o] ![16] ho).toLoadRect
      (View.write (Elt F) (sX).view f0 (ReadAs.same.apply (View.read (Elt F) ((xV).slice (Rect.unit (s := S2000000) ![b] ![128] hb) hw).view fx)) Finset.univ)
      = rowAt fx (b + o) h := by
  rw [View.write_whole_univ]
  funext l
  refine congrArg fx (funext (α := Fin 1) fun a => ?_)
  obtain rfl : a = 0 := Subsingleton.elim _ _
  refine Fin.ext ?_
  show b + 1 * (o + 1 * (l 0).val) = b + o + (l 0).val
  omega

omit [FloatOps F] [Named F] in
theorem load_y (fx : Buf (Elt F) (xLoc d)) (f0 : Buf (Elt F) ((V d (cV L) (jV L)).loc cc0_scratch1)) (b o : ℕ) (hb : ∀ a, (![b] : Fin 1 → ℕ) a + (![128] : Fin 1 → ℕ) a ≤ S2000000.size a)
    (hw : ∀ a, (Rect.unit (s := S2000000) ![b] ![128] hb).stride a = 1) (ho : ∀ a, (![o] : Fin 1 → ℕ) a + (![16] : Fin 1 → ℕ) a ≤ S128.size a) (h : b + o + 16 ≤ 2000000) :
    View.readAt (Elt F) (sY).view (Rect.unit (s := S128) ![o] ![16] ho).toLoadRect
      (View.write (Elt F) (sY).view f0 (ReadAs.same.apply (View.read (Elt F) ((xV).slice (Rect.unit (s := S2000000) ![b] ![128] hb) hw).view fx)) Finset.univ)
      = rowAt fx (b + o) h := by
  rw [View.write_whole_univ]
  funext l
  refine congrArg fx (funext (α := Fin 1) fun a => ?_)
  obtain rfl : a = 0 := Subsingleton.elim _ _
  refine Fin.ext ?_
  show b + 1 * (o + 1 * (l 0).val) = b + o + (l 0).val
  omega

omit [FloatOps F] [Named F] in
/-- The mask scratch reads as the mask words, once the fetch has filled it. -/
theorem load_w (fw : Buf (Elt F) (wLoc d)) (f2 : Buf (Elt F) ((V d (cV L) (jV L)).loc cc0_scratch2)) :
    View.readAt (Elt F) (sM).view (LoadRect.whole S32)
      (View.write (Elt F) (sM).view f2 (ReadAs.same.apply (View.read (Elt F) (wV).view fw)) Finset.univ) = fw := by
  rw [View.write_whole_univ]; exact Memref.readAt_whole _ _ _

omit [FloatOps F] [Named F] in
/-- The fold's scratch holds what was stored last, whatever was stored before. -/
theorem top_store (f : cc0_scratch3.ty.Contents (Elt F)) (h : ∀ a, (![0] : Fin 1 → ℕ) a + (![16] : Fin 1 → ℕ) a ≤ S16.size a) (p : S16.Idx → F .f32) (Ls) :
    (sO).view.writes (Elt F) f (⟨Rect.unit (s := S16) ![0] ![16] h, p⟩ :: Ls) = p := by
  rw [View.writes_cons]
  exact Memref.write_access_unit_zero_univ (Elt F) cc0_scratch3 (by funext a; obtain rfl : a = 0 := Subsingleton.elim _ _; rfl) h _ p

/-- and so a load through all of it reads that. -/
theorem top_load (h : ∀ a, (![0] : Fin 1 → ℕ) a + (![16] : Fin 1 → ℕ) a ≤ S16.size a) (p : S16.Idx → F .f32) (Ls) :
    (sO).view.readCov (Val := Elt F) (⟨Rect.unit (s := S16) ![0] ![16] h, p⟩ :: Ls) (LoadRect.whole S16) = p := by
  unfold View.readCov
  rw [top_store]; exact Memref.readAt_whole _ _ _

/-! ## The task -/

attribute [local irreducible] k0_chk1 k0_chk2 k0_chk3 k0_chk4 k0_chk5 k0_chk6 k0_chk7 k0_chk8 k0_chk9 k0_chk10 k0_chk11 k0_chk12

set_option maxHeartbeats 4000000 in
theorem tile_body (fx : Buf (Elt F) (xLoc d)) (fw : Buf (Elt F) (wLoc d)) (fo : Buf (Elt F) (oLoc d)) (hF : (K (F := F)).Facts) (O : CellTallies nD τ sig (HIx 1)) (W : Waits sig (HIx 1)) (hO : ∀ g, O g none = 0) :
    iprop(levAts (K (F := F)).L (K (F := F)).lev ∗ emp
        ∗ (xPts d fx ∗ wPts d fw ∗ oPts d fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__grid_align_sc L xV (Memref.isWhole_whole _) wV (Memref.isWhole_whole _) oV (Memref.isWhole_whole _)
            sX (Memref.isWhole_whole _) sY (Memref.isWhole_whole _) sM (Memref.isWhole_whole _) sO (Memref.isWhole_whole _)
            cc0_scratch4 cc0_scratch5 cc0_scratch6 cc0_scoped0)
          fun _ => iprop((xPts d fx ∗ wPts d fw ∗ oPts d (tileOut fx fw))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__grid_align_sc_eq_skeleton]; unfold cc0__grid_align_sc_skel
  rw [(K (F := F)).scopedBufs_V hF d (cV L) (jV L), SparseCore.Cfg.scopedSems0_V (Val := Elt F) d (cV L) (jV L), ownSems0_V, ownBufs_V]
  iintro ⟨#Hlv, -, ⟨Hx, Hw, Ho⟩, ⟨⟨%f0, H0⟩, ⟨%f1, H1⟩, ⟨%f2, H2⟩, ⟨%f3, H3⟩, Hbufs⟩, ⟨Hsem0, Hsem1, Hsem2, Hsem3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  rw [dif_pos (guard L)]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel
  simp only [Prog.lift, Prog.bind_op, Prog.bind_ret, Prog.pure_eq_ret, SparseCore.vectorLoadIdx]
  ihave Hx' := (Entails.of_eq (pts_xV (F := F) d L _).symm) $$ Hx
  ihave Hw' := (Entails.of_eq (pts_wV (F := F) d L _).symm) $$ Hw
  ihave Ho' := (Entails.of_eq (pts_oV (F := F) d L _).symm) $$ Ho
  ihave H0' := (Entails.of_eq (pts_sX (F := F) d L _).symm) $$ H0
  ihave H1' := (Entails.of_eq (pts_sY (F := F) d L _).symm) $$ H1
  ihave H2' := (Entails.of_eq (pts_sM (F := F) d L _).symm) $$ H2
  ihave H3' := (Entails.of_eq (pts_sO (F := F) d L _).symm) $$ H3
  sl_exec (disch := first | sl_exact chk1 L | sl_exact chk2 L | sl_exact chk3 L | sl_exact chk4 L | sl_exact chk5 L | sl_exact chk6 L | sl_exact chk7 L | sl_exact chk8 L | sl_exact chk9 L | sl_exact chk10 L | sl_exact chk11 L | sl_exact chk12 L)
  sl_step
  isplitl [Hx' Hw' Ho']
  · isplitl [Hx']; · iapply (Entails.of_eq (pts_xV (F := F) d L _)); iexact Hx'
    isplitl [Hw']; · iapply (Entails.of_eq (pts_wV (F := F) d L _)); iexact Hw'
    have hx0 : tile_body.sl.x d L fx f0 = rowAt fx (0 + 16 * 0) (by decide) := load_x d L fx f0 0 (16 * 0) _ _ _ _
    have hy0 : tile_body.sl.x_1 d L fx f1 = rowAt fx (1000000 + 16 * 0) (by decide) := load_y d L fx f1 1000000 (16 * 0) _ _ _ _
    have hx1 : tile_body.sl.x_2 d L fx f0 = rowAt fx (0 + 16 * 1) (by decide) := load_x d L fx f0 0 (16 * 1) _ _ _ _
    have hy1 : tile_body.sl.x_3 d L fx f1 = rowAt fx (1000000 + 16 * 1) (by decide) := load_y d L fx f1 1000000 (16 * 1) _ _ _ _
    have hx2 : tile_body.sl.x_4 d L fx f0 = rowAt fx (0 + 16 * 2) (by decide) := load_x d L fx f0 0 (16 * 2) _ _ _ _
    have hy2 : tile_body.sl.x_5 d L fx f1 = rowAt fx (1000000 + 16 * 2) (by decide) := load_y d L fx f1 1000000 (16 * 2) _ _ _ _
    have hx3 : tile_body.sl.x_6 d L fx f0 = rowAt fx (0 + 16 * 3) (by decide) := load_x d L fx f0 0 (16 * 3) _ _ _ _
    have hy3 : tile_body.sl.x_7 d L fx f1 = rowAt fx (1000000 + 16 * 3) (by decide) := load_y d L fx f1 1000000 (16 * 3) _ _ _ _
    have hx4 : tile_body.sl.x_8 d L fx f0 = rowAt fx (0 + 16 * 4) (by decide) := load_x d L fx f0 0 (16 * 4) _ _ _ _
    have hy4 : tile_body.sl.x_9 d L fx f1 = rowAt fx (1000000 + 16 * 4) (by decide) := load_y d L fx f1 1000000 (16 * 4) _ _ _ _
    have hx5 : tile_body.sl.x_10 d L fx f0 = rowAt fx (0 + 16 * 5) (by decide) := load_x d L fx f0 0 (16 * 5) _ _ _ _
    have hy5 : tile_body.sl.x_11 d L fx f1 = rowAt fx (1000000 + 16 * 5) (by decide) := load_y d L fx f1 1000000 (16 * 5) _ _ _ _
    have hx6 : tile_body.sl.x_12 d L fx f0 = rowAt fx (0 + 16 * 6) (by decide) := load_x d L fx f0 0 (16 * 6) _ _ _ _
    have hy6 : tile_body.sl.x_13 d L fx f1 = rowAt fx (1000000 + 16 * 6) (by decide) := load_y d L fx f1 1000000 (16 * 6) _ _ _ _
    have hx7 : tile_body.sl.x_14 d L fx f0 = rowAt fx (0 + 16 * 7) (by decide) := load_x d L fx f0 0 (16 * 7) _ _ _ _
    have hy7 : tile_body.sl.x_15 d L fx f1 = rowAt fx (1000000 + 16 * 7) (by decide) := load_y d L fx f1 1000000 (16 * 7) _ _ _ _
    have hw : View.readAt (Elt F) (sM).view (LoadRect.whole S32) (View.write (Elt F) (sM).view f2 (tile_body.sl.dma0_2 d fw) Finset.univ) = fw := load_w d L fw f2
    have hf0 : tile_body.sl.x_16 d L fx fw f0 f1 f2 = accum fx fw 8 (Nat.le_refl 8) := by
      delta tile_body.sl.x_16 tile_body.sl.H3'_1
      rw [top_load]
      simp only [hw, hx0, hx1, hx2, hx3, hx4, hx5, hx6, hx7, hy0, hy1, hy2, hy3, hy4, hy5, hy6, hy7, chunk0, chunk1, chunk2, chunk3, chunk4, chunk5, chunk6, chunk7]
      rfl
    have hf1 : tile_body.sl.x_17 d L fx fw f0 f1 f2 = fold (accum fx fw 8 (Nat.le_refl 8)) 0 := by
      delta tile_body.sl.x_17 tile_body.sl.H3'_2
      rw [top_load]
      simp only [k0_pay80, hf0, hw, hx0, hx1, hx2, hx3, hx4, hx5, hx6, hx7, hy0, hy1, hy2, hy3, hy4, hy5, hy6, hy7, chunk0, chunk1, chunk2, chunk3, chunk4, chunk5, chunk6, chunk7]
      rfl
    have hf2 : tile_body.sl.x_18 d L fx fw f0 f1 f2 = fold (fold (accum fx fw 8 (Nat.le_refl 8)) 0) 1 := by
      delta tile_body.sl.x_18 tile_body.sl.H3'_3
      rw [top_load]
      simp only [k0_pay2, k0_pay80, hf0, hf1, hw, hx0, hx1, hx2, hx3, hx4, hx5, hx6, hx7, hy0, hy1, hy2, hy3, hy4, hy5, hy6, hy7, chunk0, chunk1, chunk2, chunk3, chunk4, chunk5, chunk6, chunk7]
      rfl
    have hf3 : tile_body.sl.x_19 d L fx fw f0 f1 f2 = fold (fold (fold (accum fx fw 8 (Nat.le_refl 8)) 0) 1) 2 := by
      delta tile_body.sl.x_19 tile_body.sl.H3'_4
      rw [top_load]
      simp only [k0_pay2, k0_pay4, k0_pay80, hf0, hf1, hf2, hw, hx0, hx1, hx2, hx3, hx4, hx5, hx6, hx7, hy0, hy1, hy2, hy3, hy4, hy5, hy6, hy7, chunk0, chunk1, chunk2, chunk3, chunk4, chunk5, chunk6, chunk7]
      rfl
    have hval : (View.write (Elt F) (oV).view fo (tile_body.sl.dma38 d L fx fw f0 f1 f2 f3) Finset.univ) = tileOut fx fw := by
      rw [View.write_whole_univ]
      delta tile_body.sl.dma38 tile_body.sl.H3'_5
      rw [top_store]
      simp only [k0_pay6, k0_pay4, k0_pay2, k0_pay80, hf0, hf1, hf2, hf3, hw, hx0, hx1, hx2, hx3, hx4, hx5, hx6, hx7, hy0, hy1, hy2, hy3, hy4, hy5, hy6, hy7, chunk0, chunk1, chunk2, chunk3, chunk4, chunk5, chunk6, chunk7]
      rfl
    rw [hval]
    iapply (Entails.of_eq (pts_oV (F := F) d L _)); iexact Ho'
  isplitl [H0' H1' H2' H3' Hbufs]
  · isplitl [H0']; · iexists _; iexact H0'
    isplitl [H1']; · iexists _; iexact H1'
    isplitl [H2']; · iexists _; iexact H2'
    isplitl [H3']; · iexists _; iexact H3'
    iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Loss

end
-- ==== Proof.Run.lean ====
/-
  The whole program's run over any float instance: the host's three operations that turn the mask into words, the
  SparseCore call, and the host's two operations that read lane 0 of its result. The run ends with the arguments
  unchanged, every counter at zero, and the result at lane 0 of what the subcore left.
-/
module

public import proofs.«01_k».proof.Proof.Tile

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

local notation "𝕄" => MT nD τ sig (HIx 1) (Elt F) ℕ UU ℕ

variable (m : (ℓ : Loc nD τ sig) → Buf (Elt F) ℓ) (ρ : Dev nD → PrngReg)

/-! ## The host's operations -/

abbrev bX : DevRef τ sig := Proc.devRef .tc (main_arg0 : Ref sig .tc)
abbrev bMask : DevRef τ sig := Proc.devRef .tc (main_arg1 : Ref sig .tc)
abbrev b0 : DevRef τ sig := Proc.devRef .tc (main_v0 : Ref sig .tc)
abbrev b1 : DevRef τ sig := Proc.devRef .tc (main_v1 : Ref sig .tc)
abbrev bW : DevRef τ sig := Proc.devRef .tc (main_v2 : Ref sig .tc)
abbrev bO : DevRef τ sig := Proc.devRef .tc (main_v3 : Ref sig .tc)
abbrev b4 : DevRef τ sig := Proc.devRef .tc (main_v4 : Ref sig .tc)
abbrev b5 : DevRef τ sig := Proc.devRef .tc (main_v5 : Ref sig .tc)

variable [FloatOps F] [Named F]

abbrev opBytes : HloOp τ sig (Elt F) := StableHlo.unary main_arg1 main_v0 ((extui 8 · natLt_1_8) : (⟨S128, .i1⟩ : BufTy).Contents (Elt F) → (⟨S128, .i8⟩ : BufTy).Contents (Elt F))
abbrev opFours : HloOp τ sig (Elt F) := StableHlo.reshape main_v0 main_v1 (rfl : (.i8 : EltTy) = .i8) shapeCasts_S128_S32x4
abbrev opWords : HloOp τ sig (Elt F) := StableHlo.unary main_v1 main_v2 ((fun x => Host.bitcastConvertWiden S32 32 x splits_S32_w32_S32x4_w8) : (⟨S32x4, .i8⟩ : BufTy).Contents (Elt F) → (⟨S32, .i32⟩ : BufTy).Contents (Elt F))
abbrev opHead : HloOp τ sig (Elt F) := StableHlo.unary main_v3 main_v4 ((extractStridedSlice S1 ![0] · slices_S16_S1_0) : (⟨S16, .f32⟩ : BufTy).Contents (Elt F) → (⟨S1, .f32⟩ : BufTy).Contents (Elt F))
abbrev opScalar : HloOp τ sig (Elt F) := StableHlo.reshape main_v4 main_v5 (rfl : (.f32 : EltTy) = .f32) shapeCasts_S1_S_

/-- The TensorCore's arrays. -/
abbrev S8 : Finset (DevRef τ sig) := {bX, bMask, b0, b1, bW, bO, b4, b5}

theorem hBytes : (opBytes (F := F)).bufs ⊆ S8 := show ({bMask, b0} : Finset (DevRef τ sig)) ⊆ S8 by decide
theorem hFours : (opFours (F := F)).bufs ⊆ S8 := show ({b0, b1} : Finset (DevRef τ sig)) ⊆ S8 by decide
theorem hWords : (opWords (F := F)).bufs ⊆ S8 := show ({b1, bW} : Finset (DevRef τ sig)) ⊆ S8 by decide
theorem hHead : (opHead (F := F)).bufs ⊆ S8 := show ({bO, b4} : Finset (DevRef τ sig)) ⊆ S8 by decide
theorem hScalar : (opScalar (F := F)).bufs ⊆ S8 := show ({b4, b5} : Finset (DevRef τ sig)) ⊆ S8 by decide

/-! ## The arrays' contents as the host goes on -/

/-- At the launch, and before the call. -/
def V0 (d : Dev nD) : Valuation τ sig (Elt F) := fun b => m (d, b)
def V3 (d : Dev nD) : Valuation τ sig (Elt F) := (opWords (F := F)).result ((opFours (F := F)).result ((opBytes (F := F)).result (V0 m d)))

omit [FloatOps F] [Named F] in
/-- The mask's words: each mask element a byte, four bytes a word. -/
def wordsOf (mask : IVec S128 1) : IVec S32 32 :=
  Host.bitcastConvertWiden S32 32 (shapeCast (α := BitVec 8) S32x4 (extui 8 mask natLt_1_8) shapeCasts_S128_S32x4) splits_S32_w32_S32x4_w8

/-- The mask's location. -/
abbrev mLoc (d : Dev nD) : Loc nD τ sig := (SparseCore.T d).loc main_arg1

/-- The words the call reads. -/
abbrev Wm (d : Dev nD) : Buf (Elt F) (wLoc d) := wordsOf (m (mLoc d))
/-- What the call leaves. -/
abbrev Om (d : Dev nD) : Buf (Elt F) (oLoc d) := tileOut (m (xLoc d)) (Wm m d)

theorem V3_x (d : Dev nD) : V3 m d bX = m (xLoc d) := by
  unfold V3
  rw [(opWords (F := F)).result_of_not_mem _ (show bX ∉ ({bW} : Finset (DevRef τ sig)) by decide),
    (opFours (F := F)).result_of_not_mem _ (show bX ∉ ({b1} : Finset (DevRef τ sig)) by decide),
    (opBytes (F := F)).result_of_not_mem _ (show bX ∉ ({b0} : Finset (DevRef τ sig)) by decide)]
  rfl
theorem V3_mask (d : Dev nD) : V3 m d bMask = m (mLoc d) := by
  unfold V3
  rw [(opWords (F := F)).result_of_not_mem _ (show bMask ∉ ({bW} : Finset (DevRef τ sig)) by decide),
    (opFours (F := F)).result_of_not_mem _ (show bMask ∉ ({b1} : Finset (DevRef τ sig)) by decide),
    (opBytes (F := F)).result_of_not_mem _ (show bMask ∉ ({b0} : Finset (DevRef τ sig)) by decide)]
  rfl
theorem V3_w (d : Dev nD) : V3 m d bW = Wm m d := by
  unfold V3
  refine (StableHlo.unary_result _ _ _ _ _ _).trans ?_
  rw [show (opFours (F := F)).result ((opBytes (F := F)).result (V0 m d)) (Proc.devRef .tc main_v1) = _ from StableHlo.reshape_result _ _ _ _ _ _ _,
    show (opBytes (F := F)).result (V0 m d) (Proc.devRef .tc main_v0) = _ from StableHlo.unary_result _ _ _ _ _ _]
  rfl

/-- After the call: its result at what the subcore left. -/
def V4 (d : Dev nD) : Valuation τ sig (Elt F) := Function.update (V3 m d) bO (Om m d)
def V6 (d : Dev nD) : Valuation τ sig (Elt F) := (opScalar (F := F)).result ((opHead (F := F)).result (V4 m d))

theorem V4_ne (d : Dev nD) {b : DevRef τ sig} (h : b ≠ bO) : V4 m d b = V3 m d b := Function.update_of_ne h _ _
theorem V4_o (d : Dev nD) : V4 m d bO = Om m d := Function.update_self _ _ _

/-- The program's result: lane 0 of the call's. -/
def outOf (o : FVec F S16 .f32) : FVec F S_ .f32 :=
  shapeCast S_ (extractStridedSlice S1 ![0] o slices_S16_S1_0) shapeCasts_S1_S_

theorem V6_x (d : Dev nD) : V6 m d bX = m (xLoc d) := by
  unfold V6
  rw [(opScalar (F := F)).result_of_not_mem _ (show bX ∉ ({b5} : Finset (DevRef τ sig)) by decide),
    (opHead (F := F)).result_of_not_mem _ (show bX ∉ ({b4} : Finset (DevRef τ sig)) by decide), V4_ne m d (by decide), V3_x]
theorem V6_mask (d : Dev nD) : V6 m d bMask = m (mLoc d) := by
  unfold V6
  rw [(opScalar (F := F)).result_of_not_mem _ (show bMask ∉ ({b5} : Finset (DevRef τ sig)) by decide),
    (opHead (F := F)).result_of_not_mem _ (show bMask ∉ ({b4} : Finset (DevRef τ sig)) by decide), V4_ne m d (by decide), V3_mask]
theorem V6_out (d : Dev nD) : V6 m d b5 = outOf (Om m d) := by
  unfold V6
  refine (StableHlo.reshape_result _ _ _ _ _ _ _).trans ?_
  rw [show (opHead (F := F)).result (V4 m d) (Proc.devRef .tc main_v4) = _ from StableHlo.unary_result _ _ _ _ _ _,
    show V4 m d (Proc.devRef .tc main_v3) = Om m d from V4_o m d]
  rfl

omit [FloatOps F] [Named F] in
theorem held_S8 (d : Dev nD) (W : Valuation τ sig (Elt F)) :
    (held (T d) S8 W : sProp 𝕄)
      = iprop((xLoc d ↦{fullShare} W bX) ∗ (mLoc d ↦{fullShare} W bMask) ∗ ((SparseCore.T d).loc main_v0 ↦{fullShare} W b0)
          ∗ ((SparseCore.T d).loc main_v1 ↦{fullShare} W b1) ∗ (wLoc d ↦{fullShare} W bW) ∗ (oLoc d ↦{fullShare} W bO)
          ∗ ((SparseCore.T d).loc main_v4 ↦{fullShare} W b4) ∗ (SparseCore.T d).loc main_v5 ↦{fullShare} W b5) := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] [Named F] in
theorem unscoped_held (d : Dev nD) : (unscopedBufs d (fun b => m ((SparseCore.T d).loc b)) : sProp 𝕄) = held (T d) S8 (V0 m d) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton, held_S8]
  rfl

/-! ## What the call's handshakes carry -/

/-- The call's one task takes `pos`, the words and the result whole, and brings them back, the result at the task's
    value. -/
def P : (K (F := F)).Pay (nD := nD) (Val := Elt F) (Name := ℕ) (U := UU) where
  st := fun q d _ => match q with | 0 => iprop(xPts d (m (xLoc d)) ∗ wPts d (Wm m d) ∗ oPts d (V3 m d bO))
  dn := fun q d _ => match q with | 0 => iprop(xPts d (m (xLoc d)) ∗ wPts d (Wm m d) ∗ oPts d (Om m d))
  go := fun q d _ _ => match q with | 0 => iprop(xPts d (m (xLoc d)) ∗ wPts d (Wm m d) ∗ oPts d (V3 m d bO))
  td := fun q d _ _ => match q with | 0 => iprop(xPts d (m (xLoc d)) ∗ wPts d (Wm m d) ∗ oPts d (Om m d))
  x := fun _ _ => iprop(emp)

instance P_storable : (P (F := F) m).IsStorable where
  st q d _ := match q with
    | 0 => (inferInstance : BI.Storable (upEmb : UEmb _ 𝕄) iprop(xPts d (m (xLoc d)) ∗ wPts d (Wm m d) ∗ oPts d (V3 m d bO)))
  dn q d _ := match q with
    | 0 => (inferInstance : BI.Storable (upEmb : UEmb _ 𝕄) iprop(xPts d (m (xLoc d)) ∗ wPts d (Wm m d) ∗ oPts d (Om m d)))
  go q d _ _ := match q with
    | 0 => (inferInstance : BI.Storable (upEmb : UEmb _ 𝕄) iprop(xPts d (m (xLoc d)) ∗ wPts d (Wm m d) ∗ oPts d (V3 m d bO)))
  td q d _ _ := match q with
    | 0 => (inferInstance : BI.Storable (upEmb : UEmb _ 𝕄) iprop(xPts d (m (xLoc d)) ∗ wPts d (Wm m d) ∗ oPts d (Om m d)))

/-! ## The subcore's obligation -/

abbrev D : Defs nD τ sig (Elt F) (ΛP (F := F)) := Pipeline.defs pcfgs defs₀

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__grid_align_sc (coordsV c s)
          (Memref.whole main_arg0_scv) (Memref.isWhole_whole _) (Memref.whole main_v2_scv) (Memref.isWhole_whole _) (Memref.whole main_v3_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scoped0) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The subcore runs its task from what it is handed and hands back the value. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (m (xLoc d)) (Wm m d) (V3 m d bO) hF O W hO).trans (wp_mono frame _ _ fun _ => obl_post)

/-- The sequencer passes everything to the one task and takes everything back. -/
theorem vecSplit : (K (F := F)).VecSplit' (P m) 0 := by
  intro d c
  show iprop(xPts d (m (xLoc d)) ∗ wPts d (Wm m d) ∗ oPts d (V3 m d bO)) ⊢ |={Set.univ}=> iprop(
      (bigSep Finset.univ fun i : Fin 1 => iprop(xPts d (m (xLoc d)) ∗ wPts d (Wm m d) ∗ oPts d (V3 m d bO)))
      ∗ ((bigSep Finset.univ fun i : Fin 1 => iprop(xPts d (m (xLoc d)) ∗ wPts d (Wm m d) ∗ oPts d (Om m d)))
          -∗ iprop(xPts d (m (xLoc d)) ∗ wPts d (Wm m d) ∗ oPts d (Om m d))))
  rw [bigSep_univ_of_subsingleton (0 : Fin 1), bigSep_univ_of_subsingleton (0 : Fin 1)]
  iintro H; imodintro
  isplitl [H]; · iexact H
  iintro H; iexact H

/-! ## The launch element of the ghost state -/

def u₀ : UU := (initOf (K (F := F)).hsCells (K (F := F)).hsToks, 1)

omit [FloatOps F] [Named F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host's thread -/

theorem st0_eq (d : Dev nD) : (bigSep Finset.univ fun c : Fin ((K (F := F)).nCore 0) => (P m).st 0 d c)
    = iprop(xPts d (m (xLoc d)) ∗ wPts d (Wm m d) ∗ oPts d (V3 m d bO)) :=
  bigSep_univ_of_subsingleton (0 : Fin 1)
theorem dn0_eq (d : Dev nD) : (bigSep Finset.univ fun c : Fin ((K (F := F)).nCore 0) => (P m).dn 0 d c)
    = iprop(xPts d (m (xLoc d)) ∗ wPts d (Wm m d) ∗ oPts d (Om m d)) :=
  bigSep_univ_of_subsingleton (0 : Fin 1)

/-- The program's result location. -/
abbrev rLoc (d : Dev nD) : Loc nD τ sig := (SparseCore.T d).loc main_v5

/-- What the host keeps to the end: the arguments as they were, and the result. -/
abbrev FIN (d : Dev nD) : sProp 𝕄 :=
  iprop((xLoc d ↦{fullShare} m (xLoc d)) ∗ (mLoc d ↦{fullShare} m (mLoc d)) ∗ rLoc d ↦{fullShare} (outOf (Om m d) : Buf (Elt F) (rLoc d)))

/-- The host's thread: the mask to words, the call, lane 0 of the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opBytes) (S := S8) hBytes (V := V0 m d)) $$ [Hb Hheld]
  · isplitl [Hb] <;> iassumption
  iintro ⟨Hb, Hheld⟩
  rw [wp_ret]; imodintro
  iapply (wp_hlo_within 𝒱 (SparseCore.T d) none Set.univ (op := opFours) (S := S8) hFours (V := (opBytes (F := F)).result (V0 m d))) $$ [Hb Hheld]
  · isplitl [Hb] <;> iassumption
  iintro ⟨Hb, Hheld⟩
  rw [wp_ret]; imodintro
  iapply (wp_hlo_within 𝒱 (SparseCore.T d) none Set.univ (op := opWords) (S := S8) hWords (V := (opFours (F := F)).result ((opBytes (F := F)).result (V0 m d)))) $$ [Hb Hheld]
  · isplitl [Hb] <;> iassumption
  iintro ⟨Hb, Hheld⟩
  rw [wp_ret]; imodintro
  ihave Hh := (Entails.of_eq (show (held (T d) S8 ((opWords (F := F)).result ((opFours (F := F)).result ((opBytes (F := F)).result (V0 m d)))) : sProp 𝕄) = _ from held_S8 d (V3 m d))) $$ Hheld
  rw [V3_x, V3_w]
  icases Hh with ⟨Hx, Hm, H0, H1, Hw, Ho, H4, H5⟩
  iapply ((K (F := F)).wp_run (D (F := F)) 𝒱 (EH := EH) (P := P m) κ d 0) $$ [Hst Hx Hm H0 H1 Hw Ho H4 H5 Hb Hts]
  isplitr; · iexact Hctx
  isplitl [Hst]; · iexact Hst
  isplitl [Hx Hw Ho]
  · rw [st0_eq]
    isplitl [Hx]; · iexact Hx
    isplitl [Hw]; · iexact Hw
    iexact Ho
  iintro ⟨Hst, Hdn⟩
  ihave Hdn' := (Entails.of_eq (dn0_eq m d)) $$ Hdn
  icases Hdn' with ⟨Hx, Hw, Ho⟩
  iapply (wp_hlo_within 𝒱 (SparseCore.T d) none Set.univ (op := opHead) (S := S8) hHead (V := V4 m d)) $$ [Hb Hx Hm H0 H1 Hw Ho H4 H5]
  · isplitl [Hb]; · iexact Hb
    rw [held_S8, V4_o, V4_ne m d (b := bX) (by decide), V4_ne m d (b := bMask) (by decide), V4_ne m d (b := b0) (by decide), V4_ne m d (b := b1) (by decide),
      V4_ne m d (b := bW) (by decide), V4_ne m d (b := b4) (by decide), V4_ne m d (b := b5) (by decide), V3_x, V3_w]
    isplitl [Hx]; · iexact Hx
    isplitl [Hm]; · iexact Hm
    isplitl [H0]; · iexact H0
    isplitl [H1]; · iexact H1
    isplitl [Hw]; · iexact Hw
    isplitl [Ho]; · iexact Ho
    isplitl [H4]; · iexact H4
    iexact H5
  iintro ⟨Hb, Hheld⟩
  rw [wp_ret]; imodintro
  iapply (wp_hlo_within 𝒱 (SparseCore.T d) none Set.univ (op := opScalar) (S := S8) hScalar (V := (opHead (F := F)).result (V4 m d))) $$ [Hb Hheld]
  · isplitl [Hb] <;> iassumption
  iintro ⟨Hb, Hheld⟩
  ihave Hh := (Entails.of_eq (show (held (T d) S8 ((opScalar (F := F)).result ((opHead (F := F)).result (V4 m d))) : sProp 𝕄) = _ from held_S8 d (V6 m d))) $$ Hheld
  rw [V6_x, V6_mask, V6_out]
  icases Hh with ⟨Hx, Hm, -, -, -, -, -, Hr⟩
  rw [wp_ret]; imodintro; imodintro
  isplitl [Hst]; · iexact Hst
  isplitr [Hb Hts]
  · isplitl [Hx]; · iexact Hx
    isplitl [Hm]; · iexact Hm
    iexact Hr
  isplitl [Hb] <;> iassumption

/-- What the claims read of a final state. -/
def fq (d : Dev nD) (s' : Phys nD τ sig (Elt F)) : Prop :=
  s'.mem.mem (rLoc d) = outOf (Om m d) ∧ s'.mem.mem (xLoc d) = m (xLoc d) ∧ s'.mem.mem (mLoc d) = m (mLoc d)

set_option maxRecDepth 16384 in
theorem hfin (d : Dev nD) (s' : Phys nD τ sig (Elt F)) : iprop(FIN m d ∗ SI s') ⊢ (⌜fq m d s'⌝ : sProp 𝕄) := by
  iintro ⟨⟨Hx, Hm, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := mLoc d) (I := Finset.univ) (q := fullShare) (f := m (mLoc d)))) $$ [HSI Hm]
  · isplitl [HSI] <;> iassumption
  icases H with ⟨%hm, HSI, -⟩
  ihave H := (SI_pointsTo_agree (st := s') (ℓ := rLoc d) (I := Finset.univ) (q := fullShare) (f := (outOf (Om m d) : Buf (Elt F) (rLoc d)))) $$ [HSI Hr]
  · isplitl [HSI] <;> iassumption
  icases H with %hr
  ipureintro
  exact ⟨funext fun i => hr i (Finset.mem_univ i), funext fun i => hx i (Finset.mem_univ i), funext fun i => hm i (Finset.mem_univ i)⟩

/-! ## The program's run -/

def QC : PUnit × MemSt nD τ sig (Elt F) → Prop := fun r =>
  (∀ c : Dev nD, r.2.mem (rLoc c) = outOf (Om m c) ∧ r.2.mem (xLoc c) = m (xLoc c) ∧ r.2.mem (mLoc c) = m (mLoc c)) ∧ r.2.sem = fun _ => 0

/-- From any memory with zero counters, every weakly fair execution terminates with the result at lane 0 of the
    subcore's value, the arguments unchanged and every counter at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Loss

end
-- ==== Proof.Frames.lean ====
/-
  The frames: the kernel at the bits and at the reals, from one run, and the reference's.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import proofs.«01_k».proof.Proof.Gen.Pre_in_range

@[expose] public section

noncomputable section

namespace Cert.Proof.Loss

open Idealize.ShloMosaic Idealize.SL.Sem

/-- At the bits a named constant is the literal that it names. -/
local instance bitsNamed : Named Bits where
  named := fun _ _ _ b => FloatOps.ofBits _ b

/-- The kernel as written runs, leaves its arguments as they were and every counter at zero. -/
theorem frame_kernel : Cert.quiescent_Kernel (hKernel := Cert.Kernel.Gen.facts) := fun m ρ _ =>
  (θ_run (Cert.KernelIdeal.defs (F := Bits)) (Cert.KernelIdeal.threads (F := Bits)) ⟨m, fun _ => 0, ρ⟩).mono
    (fun _ h => ⟨fun c => (h.1 c).2, h.2⟩) (run_main (F := Bits) m ρ)

/-- The kernel with its constants named runs, leaves its arguments as they were and every counter at zero. -/
theorem frame_ideal : Cert.quiescent_KernelIdeal (hKernelIdeal := Cert.KernelIdeal.Gen.facts) := fun m ρ _ =>
  (θ_run _ _ _).mono (fun _ h => ⟨fun c => (h.1 c).2, h.2⟩) (run_main (F := Ideal) m ρ)

theorem frame_ideal_in_range : Cert.quiescent_KernelIdeal_pre_in_range (hKernelIdeal := Cert.KernelIdeal.Gen.facts)
    (hPre_in_range := Cert.Pre_in_range.Gen.facts) := fun m ρ _ => frame_ideal m ρ trivial

/-- The reference runs, leaves its arguments as they were and every counter at zero: it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_in_range : Cert.quiescent_ReferenceIdeal_pre_in_range (hReferenceIdeal := Cert.ReferenceIdeal.Gen.facts)
    (hPre_in_range := Cert.Pre_in_range.Gen.facts) := fun m ρ _ => frame_reference m ρ trivial

/-- Each named constant is what its literal rounds. -/
theorem names_kept : Cert.preserves_Kernel_KernelIdeal :=
  ⟨IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl, IdealRules.named_const.statement _ _ _ _ _ rfl⟩

end Cert.Proof.Loss

end
-- ==== Proof.Sine.lean ====
/-
  The real mathematics: the argument brought to within a half of an integer, in the kernel's way and in the
  reference's, the sine's Taylor polynomial of degree eleven there, and how far that is from the sine.
-/
module

public import Idealize.ShloMosaic.PureOps.Ideal
public import Mathlib.Analysis.Complex.Exponential
public import Mathlib.Analysis.Complex.Trigonometric
public import Mathlib.Analysis.SpecialFunctions.Trigonometric.Basic

@[expose] public section

noncomputable section

namespace Cert.Proof.Loss

open Idealize.ShloMosaic

/-! ## The distance to a nearby integer -/

/-- `u` less its integral part, then less or plus one where that leaves more than a half. -/
def near (u : ℝ) : ℝ :=
  (u - (Ideal.truncInt u : ℝ)) - (if 1 / 2 < u - (Ideal.truncInt u : ℝ) then 1 else 0)
    + (if u - (Ideal.truncInt u : ℝ) < -(1 / 2) then 1 else 0)

/-- What is left after the integral part lies strictly between `-1` and `1`. -/
theorem frac_bounds (u : ℝ) : -1 < u - (Ideal.truncInt u : ℝ) ∧ u - (Ideal.truncInt u : ℝ) < 1 := by
  unfold Ideal.truncInt
  split
  · constructor <;> linarith [Int.floor_le u, Int.lt_floor_add_one u]
  · constructor <;> linarith [Int.le_ceil u, Int.ceil_lt_add_one u]

/-- The kernel's reduction is `u` less an integer and within a half. -/
theorem near_spec (u : ℝ) : (∃ n : ℤ, near u = u - n) ∧ |near u| ≤ 1 / 2 := by
  obtain ⟨h1, h2⟩ := frac_bounds u
  unfold near
  split_ifs with ha hb hb
  · exact absurd hb (by linarith)
  · exact ⟨⟨Ideal.truncInt u + 1, by push_cast; ring⟩, abs_le.2 ⟨by linarith, by linarith⟩⟩
  · exact ⟨⟨Ideal.truncInt u - 1, by push_cast; ring⟩, abs_le.2 ⟨by linarith, by linarith⟩⟩
  · exact ⟨⟨Ideal.truncInt u, by ring⟩, abs_le.2 ⟨by linarith, by linarith⟩⟩

/-- The reference's rounding leaves at most a half. -/
theorem round_spec (u : ℝ) : |u - (Ideal.roundHalfEven u : ℝ)| ≤ 1 / 2 := by
  have h1 := Int.floor_le u
  have h2 := Int.lt_floor_add_one u
  unfold Ideal.roundHalfEven
  simp only
  split_ifs with ha hb hc <;> refine abs_le.2 ⟨?_, ?_⟩ <;> push_cast <;> linarith

/-! ## The polynomial -/

/-- The sine's Taylor polynomial of degree eleven. -/
def taylor (t : ℝ) : ℝ :=
  t - t ^ 3 / 6 + t ^ 5 / 120 - t ^ 7 / 5040 + t ^ 9 / 362880 - t ^ 11 / 39916800

theorem taylor_neg (t : ℝ) : taylor (-t) = -taylor t := by unfold taylor; ring

/-- Two numbers within a half that differ by an integer are equal or opposite, so the polynomial's squares agree. -/
theorem taylor_sq_eq {r s : ℝ} (n : ℤ) (h : r = s - n) (hr : |r| ≤ 1 / 2) (hs : |s| ≤ 1 / 2) :
    taylor (Real.pi * r) ^ 2 = taylor (Real.pi * s) ^ 2 := by
  obtain ⟨hr1, hr2⟩ := abs_le.1 hr
  obtain ⟨hs1, hs2⟩ := abs_le.1 hs
  have hn1 : (n : ℝ) ≤ 1 := by linarith
  have hn2 : (-1 : ℝ) ≤ n := by linarith
  have hn1' : n ≤ 1 := by exact_mod_cast hn1
  have hn2' : -1 ≤ n := by exact_mod_cast hn2
  have hc : n = -1 ∨ n = 0 ∨ n = 1 := by omega
  rcases hc with rfl | rfl | rfl
  · have : r = -s := by push_cast at h; linarith
    rw [this, mul_neg, taylor_neg, neg_sq]
  · have : r = s := by push_cast at h; linarith
    rw [this]
  · have : r = -s := by push_cast at h; linarith
    rw [this, mul_neg, taylor_neg, neg_sq]

/-- The cosine's Taylor polynomial of degree twelve. -/
def cosTaylor (t : ℝ) : ℝ :=
  1 - t ^ 2 / 2 + t ^ 4 / 24 - t ^ 6 / 720 + t ^ 8 / 40320 - t ^ 10 / 3628800 + t ^ 12 / 479001600

/-- The exponential on the imaginary axis is near the two polynomials. -/
theorem exp_near {t : ℝ} (h : |t| ≤ 7) :
    ‖Complex.exp ((t : ℂ) * Complex.I) - ((cosTaylor t : ℂ) + (taylor t : ℂ) * Complex.I)‖ ≤ |t| ^ 13 / 6227020800 * 2 := by
  have hn : ‖(t : ℂ) * Complex.I‖ = |t| := by simp
  have hb := Complex.exp_bound' (x := (t : ℂ) * Complex.I) (n := 13) (by
    rw [hn]; push_cast; rw [div_le_iff₀ (by norm_num)]; linarith)
  have hf : ((13 : ℕ).factorial : ℝ) = 6227020800 := by norm_num [Nat.factorial]
  have hpoly : (∑ m ∈ Finset.range 13, ((t : ℂ) * Complex.I) ^ m / (m.factorial : ℂ))
      = (cosTaylor t : ℂ) + (taylor t : ℂ) * Complex.I := by
    have h2 : Complex.I ^ 2 = -1 := Complex.I_sq
    have h3 : Complex.I ^ 3 = -Complex.I := by rw [pow_succ, h2]; ring
    have h4 : Complex.I ^ 4 = 1 := by rw [pow_succ, h3]; linear_combination -h2
    have h5 : Complex.I ^ 5 = Complex.I := by rw [pow_succ, h4]; ring
    have h6 : Complex.I ^ 6 = -1 := by rw [pow_succ, h5]; linear_combination h2
    have h7 : Complex.I ^ 7 = -Complex.I := by rw [pow_succ, h6]; ring
    have h8 : Complex.I ^ 8 = 1 := by rw [pow_succ, h7]; linear_combination -h2
    have h9 : Complex.I ^ 9 = Complex.I := by rw [pow_succ, h8]; ring
    have h10 : Complex.I ^ 10 = -1 := by rw [pow_succ, h9]; linear_combination h2
    have h11 : Complex.I ^ 11 = -Complex.I := by rw [pow_succ, h10]; ring
    have h12 : Complex.I ^ 12 = 1 := by rw [pow_succ, h11]; linear_combination -h2
    simp only [Finset.sum_range_succ, Finset.sum_range_zero, mul_pow, pow_zero, pow_one, h2, h3, h4, h5, h6, h7, h8, h9, h10, h11, h12,
      Nat.factorial, taylor, cosTaylor]
    push_cast
    ring
  rw [hpoly, hn, hf] at hb
  exact hb

theorem sin_near {t : ℝ} (h : |t| ≤ 7) : |taylor t - Real.sin t| ≤ |t| ^ 13 / 6227020800 * 2 := by
  have h1 := (Complex.abs_im_le_norm _).trans (exp_near h)
  rw [Complex.sub_im, Complex.exp_ofReal_mul_I_im] at h1
  rw [abs_sub_comm]
  simpa using h1

theorem cos_near {t : ℝ} (h : |t| ≤ 7) : |cosTaylor t - Real.cos t| ≤ |t| ^ 13 / 6227020800 * 2 := by
  have h1 := (Complex.abs_re_le_norm _).trans (exp_near h)
  rw [Complex.sub_re, Complex.exp_ofReal_mul_I_re] at h1
  rw [abs_sub_comm]
  simpa using h1

/-- `π / 2` is below `1.570797`: the cosine is negative there. -/
theorem half_pi_lt : Real.pi / 2 < 1570797 / 10 ^ 6 := by
  by_contra hc
  have hpos : 0 ≤ Real.cos (1570797 / 10 ^ 6) :=
    Real.cos_nonneg_of_neg_pi_div_two_le_of_le (by linarith [Real.pi_pos]) (not_lt.1 hc)
  have h := cos_near (t := 1570797 / 10 ^ 6) (by rw [abs_of_pos (by norm_num)]; norm_num)
  rw [abs_of_pos (show (0 : ℝ) < 1570797 / 10 ^ 6 by norm_num)] at h
  have h1 := (abs_le.1 h).1
  have h2 : cosTaylor (1570797 / 10 ^ 6) + (1570797 / 10 ^ 6) ^ 13 / 6227020800 * 2 < 0 := by unfold cosTaylor; norm_num
  linarith

/-- Within `π / 2` the polynomial is at most `1.19e-7` from the sine. -/
theorem taylor_near {t : ℝ} (ht : |t| ≤ Real.pi / 2) : |taylor t - Real.sin t| ≤ 119 / 10 ^ 9 := by
  have hpi : |t| ≤ 1570797 / 10 ^ 6 := ht.trans half_pi_lt.le
  refine (sin_near (hpi.trans (by norm_num))).trans ?_
  have hp : |t| ^ 13 ≤ (1570797 / 10 ^ 6) ^ 13 := pow_le_pow_left₀ (abs_nonneg t) hpi 13
  calc |t| ^ 13 / 6227020800 * 2 ≤ (1570797 / 10 ^ 6) ^ 13 / 6227020800 * 2 := by gcongr
    _ ≤ 119 / 10 ^ 9 := by norm_num

/-- The squares are at most `2.381e-7` apart, for the polynomial at the kernel's reduction of `u` and the sine of
    `π u`. -/
theorem taylor_sq_near (u : ℝ) : |taylor (Real.pi * near u) ^ 2 - Real.sin (Real.pi * u) ^ 2| ≤ 2381 / 10 ^ 10 := by
  obtain ⟨⟨n, hn⟩, hle⟩ := near_spec u
  have hsin : Real.sin (Real.pi * u) ^ 2 = Real.sin (Real.pi * near u) ^ 2 := by
    have : Real.pi * near u = Real.pi * u - n * Real.pi := by rw [hn]; ring
    rw [this, Real.sin_sub_int_mul_pi, mul_pow]
    rcases Int.even_or_odd n with h | h
    · rw [h.neg_one_zpow]; ring
    · rw [h.neg_one_zpow]; ring
  rw [hsin]
  have ht : |Real.pi * near u| ≤ Real.pi / 2 := by
    rw [abs_mul, abs_of_pos Real.pi_pos]; nlinarith [Real.pi_pos]
  have h1 := taylor_near ht
  have h2 := Real.abs_sin_le_one (Real.pi * near u)
  generalize taylor (Real.pi * near u) = a at *
  generalize Real.sin (Real.pi * near u) = b at *
  have h3 : |a + b| ≤ 2 + 119 / 10 ^ 9 := by
    have : a + b = (a - b) + 2 * b := by ring
    rw [this]
    refine (abs_add_le _ _).trans ?_
    rw [abs_mul, abs_two]; linarith
  rw [show a ^ 2 - b ^ 2 = (a - b) * (a + b) by ring, abs_mul]
  calc |a - b| * |a + b| ≤ 119 / 10 ^ 9 * (2 + 119 / 10 ^ 9) := by gcongr
    _ ≤ 2381 / 10 ^ 10 := by norm_num

end Cert.Proof.Loss

end
-- ==== Proof.Lanes.lean ====
/-
  The kernel's value at the reals: what a lane's squared sine, a lane's mask and a chunk's contribution are, and that
  lane 0 ends holding the sum over the 128 elements.
-/
module

public import proofs.«01_k».proof.Proof.Run
public import proofs.«01_k».proof.Proof.Sine
public import Idealize.ShloMosaic.Lib.BitcastConvert
public import Idealize.ShloMosaic.Lib.Pointwise.Index
public import Idealize.ShloMosaic.Lib.Pipeline.Value

@[expose] public section

noncomputable section

namespace Cert.Proof.Loss

open Cert.KernelIdeal Cert.KernelIdeal.Gen
open Idealize.ShloMosaic

/-! ## The literals -/

theorem lit_sixteenth : Ideal.ofBits .f32 0x3D800000#32 = ((1 / 16 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_zero : Ideal.ofBits .f32 0x00000000#32 = ((0 : ℝ) : EReal) := by
  simp [Ideal.ofBits, Ideal.ieee, -EReal.coe_mul]

/-! ## One lane's squared sine -/

/-- Where the argument is below `2 ^ 31` in magnitude, converting to an integer and back takes the integral part. -/
theorem trunc_word (u : ℝ) (h : |u| < 2 ^ 31) : ((Ideal.fptosi 32 (u : EReal)).toInt : ℝ) = (Ideal.truncInt u : ℝ) := by
  obtain ⟨h1, h2⟩ := abs_lt.1 h
  have hb : -(2 ^ 31 : ℤ) ≤ Ideal.truncInt u ∧ Ideal.truncInt u ≤ 2 ^ 31 - 1 := by
    obtain ⟨h3, h4⟩ := frac_bounds u
    unfold Ideal.truncInt at *
    split_ifs at * with hs
    · exact ⟨by have := Int.floor_nonneg.2 hs; omega, Int.le_sub_one_of_lt (Int.floor_lt.2 (by push_cast; linarith))⟩
    · refine ⟨Int.le_ceil_iff.2 (by push_cast; linarith), ?_⟩
      have : ⌈u⌉ ≤ 0 := Int.ceil_le.2 (by push_cast; linarith)
      omega
  have hc : Ideal.toIntClamped (-(2 ^ (32 - 1) : Nat)) ((2 ^ (32 - 1) : Nat) - 1) (u : EReal) = Ideal.truncInt u := by
    rw [Ideal.toIntClamped_coe]
    show max _ (min _ (Ideal.truncInt u)) = _
    rw [min_eq_right (by push_cast; exact hb.2), max_eq_right (by push_cast; exact hb.1)]
  unfold Ideal.fptosi
  rw [hc, BitVec.toInt_ofInt, Int.bmod_eq_of_le (by norm_num; linarith [hb.1]) (by norm_num; omega)]

theorem pick_gt (r c : ℝ) : Scalar.select (Ideal.cmp .ogt (r : EReal) (c : EReal)) ((1 : ℝ) : EReal) ((0 : ℝ) : EReal)
    = ((if c < r then 1 else 0 : ℝ) : EReal) := by
  by_cases h : c < r <;> simp [Ideal.cmp, Scalar.select, h]
theorem pick_lt (r c : ℝ) : Scalar.select (Ideal.cmp .olt (r : EReal) (c : EReal)) ((1 : ℝ) : EReal) ((0 : ℝ) : EReal)
    = ((if r < c then 1 else 0 : ℝ) : EReal) := by
  by_cases h : r < c <;> simp [Ideal.cmp, Scalar.select, h]

/-- A lane's reduced argument is the real reduction of its element over sixteen. -/
theorem reduced_lane (v : FVec Ideal S16 .f32) (l : S16.Idx) (a : ℝ) (hv : v l = (a : EReal)) (ha : |a| < 2 ^ 35) :
    reduced (F := Ideal) v l = ((near (a / 16) : ℝ) : EReal) := by
  have hu : (v l : EReal) * Ideal.ofBits .f32 0x3D800000#32 = ((a / 16 : ℝ) : EReal) := by
    rw [hv, lit_sixteenth, ← EReal.coe_mul]; congr 1; ring
  have h31 : |a / 16| < 2 ^ 31 := by rw [abs_div, abs_of_pos (by norm_num : (0 : ℝ) < 16)]; rw [div_lt_iff₀ (by norm_num)]; linarith
  show ((v l : EReal) * Ideal.ofBits .f32 0x3D800000#32 - (((Ideal.fptosi 32 ((v l : EReal) * Ideal.ofBits .f32 0x3D800000#32)).toInt : ℝ) : EReal)
      - Scalar.select (Ideal.cmp .ogt ((v l : EReal) * Ideal.ofBits .f32 0x3D800000#32
          - (((Ideal.fptosi 32 ((v l : EReal) * Ideal.ofBits .f32 0x3D800000#32)).toInt : ℝ) : EReal)) (Ideal.ofBits .f32 0x3F000000#32))
          (Ideal.ofBits .f32 0x3F800000#32) (Ideal.ofBits .f32 0x00000000#32))
      + Scalar.select (Ideal.cmp .olt ((v l : EReal) * Ideal.ofBits .f32 0x3D800000#32
          - (((Ideal.fptosi 32 ((v l : EReal) * Ideal.ofBits .f32 0x3D800000#32)).toInt : ℝ) : EReal)) (Ideal.ofBits .f32 0xBF000000#32))
          (Ideal.ofBits .f32 0x3F800000#32) (Ideal.ofBits .f32 0x00000000#32) = _
  rw [hu, trunc_word _ h31, ← EReal.coe_sub, lit_half, lit_neg_half, lit_one, lit_zero, pick_gt, pick_lt, ← EReal.coe_sub, ← EReal.coe_add]
  rfl

/-- Horner's rule computes the Taylor polynomial. -/
theorem poly_lane (t : FVec Ideal S16 .f32) (l : S16.Idx) (a : ℝ) (ht : t l = (a : EReal)) :
    poly (F := Ideal) t l = ((taylor a : ℝ) : EReal) := by
  show (t l : EReal) * (Ideal.ofBits .f32 0x3F800000#32 + (t l : EReal) * t l * (((-1 / 6 : ℝ) : EReal) + (t l : EReal) * t l * (((1 / 120 : ℝ) : EReal)
    + (t l : EReal) * t l * (((-1 / 5040 : ℝ) : EReal) + (t l : EReal) * t l * (((1 / 362880 : ℝ) : EReal) + (t l : EReal) * t l * ((-1 / 39916800 : ℝ) : EReal)))))) = _
  rw [ht, lit_one]
  simp only [← EReal.coe_mul, ← EReal.coe_add]
  congr 1
  unfold taylor
  ring

/-- The squared sine that the kernel computes of a real. -/
def square (a : ℝ) : ℝ := taylor (Real.pi * near (a / 16)) ^ 2

theorem sin2_lane (v : FVec Ideal S16 .f32) (l : S16.Idx) (a : ℝ) (hv : v l = (a : EReal)) (ha : |a| < 2 ^ 35) :
    sin2 (F := Ideal) v l = ((square a : ℝ) : EReal) := by
  have ht : (mulf (broadcast S16 (Named.named κ "pi" 0x40490FDB#32)) (reduced (F := Ideal) v) : FVec Ideal S16 .f32) l
      = ((Real.pi * near (a / 16) : ℝ) : EReal) := by
    show ((Real.pi : ℝ) : EReal) * reduced (F := Ideal) v l = _
    rw [reduced_lane v l a hv ha, ← EReal.coe_mul]
  show (poly (F := Ideal) _ l : EReal) * poly (F := Ideal) _ l = _
  rw [poly_lane _ l _ ht, ← EReal.coe_mul]
  unfold square
  congr 1; ring

/-! ## One lane's mask -/

theorem shift_amount : ∀ l : S16.Idx, k0_pay8 l = BitVec.ofNat 32 ((l 0).val % 4 * 8) := by decide +kernel

/-- A word shifted right and masked to one bit is that bit. -/
theorem bit_of_word (w : BitVec 32) (n : ℕ) (hn : n < 32) :
    (IntOp.andi (IntOp.shrsi .vector w (BitVec.ofNat 32 n)) 1#32).toInt = (w.getLsbD n).toNat := by
  have h1 : (BitVec.ofNat 32 n).toNat = n := by rw [BitVec.toNat_ofNat]; omega
  have h2 : IntOp.andi (IntOp.shrsi .vector w (BitVec.ofNat 32 n)) 1#32 = (BitVec.ofBool (w.getLsbD n)).setWidth 32 := by
    unfold IntOp.andi IntOp.shrsi
    rw [h1, if_pos hn, BitVec.sshiftRight', h1]
    apply BitVec.eq_of_getLsbD_eq
    intro i hi
    rcases Nat.eq_zero_or_pos i with rfl | hp
    · rw [BitVec.getLsbD_and, BitVec.getLsbD_sshiftRight]
      simp [hn]
    · have : i ≠ 0 := by omega
      simp [BitVec.getLsbD_one, this]
  rw [h2]
  cases w.getLsbD n <;> rfl

/-- Bit 0 of byte `b` of word `j` is element `4 j + b` of the mask. -/
theorem word_bit (mask : IVec S128 1) (j : Fin 32) (b : Fin 4) :
    (wordsOf mask (ix1 j)).getLsbD (b.val * 8) = (mask (ix1 ⟨4 * j.val + b.val, by omega⟩)).getLsbD 0 := by
  unfold wordsOf
  rw [Host.bitcastConvertWiden_getLsbD _ _ _ _ _ _ (show b.val * 8 < 32 by omega), Nat.mul_mod_left,
    shapeCast_apply _ _ _ (ix1 ⟨4 * j.val + b.val, by omega⟩)]
  · show (BitVec.setWidth 8 (mask _)).getLsbD 0 = _
    simp
  · refine (Shape.rowMajor_val_one _).trans (Eq.trans ?_ (Shape.rowMajor_val_two _).symm)
    rw [Shape.SplitsWords.snoc_apply_val_of_lt _ _ _ 0 (by decide)]
    have h1 : ∀ k, (Shape.SplitsWords.snoc splits_S32_w32_S32x4_w8 (ix1 j) k 1) = k := fun k =>
      Shape.SplitsWords.snoc_axis splits_S32_w32_S32x4_w8 (ix1 j) k
    rw [h1]
    show 4 * j.val + b.val = j.val * 4 + b.val * 8 / 8
    omega

/-- A lane's mask in chunk `i` is the mask element `16 i + l`, as a number. -/
theorem mask_lane (mask : IVec S128 1) (i : Fin 8) (l : S16.Idx) :
    maskOf (F := Ideal) (words (F := Ideal) (wordsOf mask) i) l
      = (((mask (ix1 ⟨16 * i.val + (l 0).val, by have h1 : (l 0).val < 16 := (l 0).isLt; omega⟩)).toNat : ℝ) : EReal) := by
  have hl : (l 0).val < 16 := (l 0).isLt
  have hw : words (F := Ideal) (wordsOf mask) i l = wordsOf mask (ix1 ⟨4 * i.val + (l 0).val / 4, by omega⟩) := by
    refine congrArg (wordsOf mask) (funext (α := Fin 1) fun a => ?_)
    obtain rfl : a = 0 := Subsingleton.elim _ _
    exact Fin.ext (wordIx_toNat i l)
  show (((IntOp.andi (IntOp.shrsi .vector (words (F := Ideal) (wordsOf mask) i l) (k0_pay8 l)) 1#32).toInt : ℝ) : EReal) = _
  rw [hw, shift_amount, bit_of_word _ _ (by omega),
    word_bit mask ⟨4 * i.val + (l 0).val / 4, by omega⟩ ⟨(l 0).val % 4, Nat.mod_lt _ (by norm_num)⟩]
  have hi : (⟨4 * (4 * i.val + (l 0).val / 4) + (l 0).val % 4, by omega⟩ : Fin 128) = ⟨16 * i.val + (l 0).val, by omega⟩ := Fin.ext (by show _ = _; dsimp only; omega)
  simp only [hi]
  congr 2
  generalize mask _ = b
  revert b
  decide

/-! ## The sum -/

/-- The first `16 n` terms, chunk by chunk. -/
theorem sum_chunks (g : ℕ → ℝ) (n : ℕ) : ∑ k ∈ Finset.range (16 * n), g k = ∑ i ∈ Finset.range n, ∑ l ∈ Finset.range 16, g (16 * i + l) := by
  induction n with
  | zero => simp
  | succ n ih => rw [Nat.mul_succ, Finset.sum_range_add, ih, Finset.sum_range_succ _ n]

/-- A fold of real lanes. -/
theorem fold_lane (a : FVec Ideal S16 .f32) (b : ℕ → ℝ) (h : ∀ l : S16.Idx, a l = (b (l 0).val : EReal)) (i : Fin 4) (l : S16.Idx) :
    fold (F := Ideal) a i l = ((b (l 0).val + b (((l 0).val + 8 / 2 ^ i.val) % 16) : ℝ) : EReal) := by
  have hg : loadIdx (F := Ideal) (e := .f32) a ![foldIx i] (foldIx_inb i) l = (b (((l 0).val + 8 / 2 ^ i.val) % 16) : EReal) :=
    (h _).trans (congrArg (fun k => (b k : EReal)) (foldIx_toNat i l))
  show (a l : EReal) + loadIdx (F := Ideal) (e := .f32) a ![foldIx i] (foldIx_inb i) l = _
  rw [h, hg, ← EReal.coe_add]

/-- The lanes after a fold. -/
def foldStep (b : ℕ → ℝ) (i : Fin 4) (l : ℕ) : ℝ := b l + b ((l + 8 / 2 ^ i.val) % 16)

/-- The four folds leave the sum of the sixteen lanes in lane 0. -/
theorem folds_lane (a : FVec Ideal S16 .f32) (b : ℕ → ℝ) (h : ∀ l : S16.Idx, a l = (b (l 0).val : EReal)) :
    fold (F := Ideal) (fold (fold (fold a 0) 1) 2) 3 (ix1 0) = ((∑ l ∈ Finset.range 16, b l : ℝ) : EReal) := by
  have f0 : ∀ l : S16.Idx, fold (F := Ideal) a 0 l = (foldStep b 0 (l 0).val : EReal) := fold_lane a b h 0
  have f1 : ∀ l : S16.Idx, fold (F := Ideal) (fold a 0) 1 l = (foldStep (foldStep b 0) 1 (l 0).val : EReal) := fold_lane _ _ f0 1
  have f2 : ∀ l : S16.Idx, fold (F := Ideal) (fold (fold a 0) 1) 2 l = (foldStep (foldStep (foldStep b 0) 1) 2 (l 0).val : EReal) :=
    fold_lane _ _ f1 2
  rw [fold_lane _ _ f2 3 (ix1 0)]
  congr 1
  simp [foldStep, Finset.sum_range_succ]
  ring

theorem x_in {k : ℕ} (h : k < 128) : k < 2000000 := by omega
theorem y_in {k : ℕ} (h : k < 128) : 1000000 + k < 2000000 := by omega

variable (fx : FVec Ideal S2000000 .f32) (mask : IVec S128 1) (X Y : ℕ → ℝ)

/-- One element's term: its mask times the two squared sines. -/
def term (k : ℕ) : ℝ := (if h : k < 128 then ((mask (ix1 ⟨k, h⟩)).toNat : ℝ) else 0) * (square (X k) + square (Y k))

variable (hX : ∀ k (h : k < 128), fx (ix1 ⟨k, x_in h⟩) = (X k : EReal)) (hY : ∀ k (h : k < 128), fx (ix1 ⟨1000000 + k, y_in h⟩) = (Y k : EReal))
  (bX : ∀ k, k < 128 → |X k| < 2 ^ 35) (bY : ∀ k, k < 128 → |Y k| < 2 ^ 35)

include hX hY bX bY in
/-- The accumulator's lane `l` after `n` chunks. -/
theorem accum_lane (n : ℕ) (h : n ≤ 8) (l : S16.Idx) :
    accum (F := Ideal) fx (wordsOf mask) n h l = ((∑ i ∈ Finset.range n, term mask X Y (16 * i + (l 0).val) : ℝ) : EReal) := by
  have hl : (l 0).val < 16 := (l 0).isLt
  induction n with
  | zero =>
    show Ideal.ofBits .f32 0x00000000#32 = _
    rw [lit_zero]; simp
  | succ n ih =>
    have hk : 16 * n + (l 0).val < 128 := by omega
    have rx : rowAt (F := Ideal) fx (0 + 16 * n) (by omega) l = (X (16 * n + (l 0).val) : EReal) := by
      rw [← hX _ hk]
      show fx _ = fx _
      congr 1
      funext (a : Fin 1)
      obtain rfl : a = 0 := Subsingleton.elim _ _
      exact Fin.ext (show 0 + 16 * n + (l 0).val = 16 * n + (l 0).val by omega)
    have ry : rowAt (F := Ideal) fx (1000000 + 16 * n) (by omega) l = (Y (16 * n + (l 0).val) : EReal) := by
      rw [← hY _ hk]
      show fx _ = fx _
      congr 1
      funext (a : Fin 1)
      obtain rfl : a = 0 := Subsingleton.elim _ _
      exact Fin.ext (show 1000000 + 16 * n + (l 0).val = 1000000 + (16 * n + (l 0).val) by omega)
    show (accum (F := Ideal) fx (wordsOf mask) n _ l : EReal)
      + maskOf (F := Ideal) (words (F := Ideal) (wordsOf mask) ⟨n, h⟩) l * (sin2 (F := Ideal) _ l + sin2 (F := Ideal) _ l) = _
    rw [ih, mask_lane, sin2_lane _ l _ rx (bX _ hk), sin2_lane _ l _ ry (bY _ hk), Finset.sum_range_succ, ← EReal.coe_add, ← EReal.coe_mul, ← EReal.coe_add]
    congr 2
    unfold term
    rw [dif_pos hk]

include hX hY bX bY in
/-- The program's result is the sum of the 128 terms. -/
theorem out_eq (j : S_.Idx) :
    outOf (F := Ideal) (tileOut fx (wordsOf mask)) j = ((∑ k ∈ Finset.range 128, term mask X Y k : ℝ) : EReal) := by
  have h0 : outOf (F := Ideal) (tileOut fx (wordsOf mask)) j = tileOut (F := Ideal) fx (wordsOf mask) (ix1 0) := by
    unfold outOf
    rw [shapeCast_apply _ _ j (ix1 (0 : Fin 1)) (by
      have h1 : (S_.rowMajor j).val < 1 := (S_.rowMajor j).isLt.trans_eq (by decide)
      have h2 : (S1.rowMajor (ix1 (0 : Fin 1))).val < 1 := (S1.rowMajor (ix1 (0 : Fin 1))).isLt.trans_eq (by decide)
      exact (Nat.lt_one_iff.1 h2).trans (Nat.lt_one_iff.1 h1).symm)]
    show tileOut (F := Ideal) fx (wordsOf mask) _ = _
    congr 1
    funext (a : Fin 1)
    obtain rfl : a = 0 := Subsingleton.elim _ _
    rfl
  rw [h0]
  unfold tileOut
  rw [folds_lane _ (fun l => ∑ i ∈ Finset.range 8, term mask X Y (16 * i + l)) (accum_lane fx mask X Y hX hY bX bY 8 (Nat.le_refl 8)),
    show 128 = 16 * 8 from rfl, sum_chunks, Finset.sum_comm]

end Cert.Proof.Loss

end
-- ==== Proof.Claims.lean ====
/-
  The two value claims: the kernel's result is the reference's with its polynomial sine, exactly, and is near the loss
  with the true sine.
-/
module

public import proofs.«01_k».proof.Proof.Frames
public import proofs.«01_k».proof.Proof.Lanes
public import proofs.«01_k».proof.Proof.Gen.Post_near_the_sines
public import Idealize.ShloMosaic.Lib.Pointwise.Reduce

@[expose] public section

noncomputable section

namespace Cert.Proof.Loss

open Idealize.ShloMosaic Idealize.SL.Sem
open Cert.KernelIdeal (S2000000 S128 S_ S16)

/-! ## The precondition -/

theorem lit_range : Ideal.ofBits .f32 0x51000000#32 = ((34359738368 : ℝ) : EReal) := by
  simp [Ideal.ofBits, Ideal.ieee, -EReal.coe_mul]; norm_num
theorem lit_sixteen : Ideal.ofBits .f32 0x41800000#32 = ((16 : ℝ) : EReal) := by
  simp [Ideal.ofBits, Ideal.ieee, -EReal.coe_mul]; norm_num
theorem lit_neg_one : Ideal.ofBits .f32 0xBF800000#32 = ((-1 : ℝ) : EReal) := by
  simp [Ideal.ofBits, Ideal.ieee, -EReal.coe_mul]; norm_num

/-- An extended real of magnitude below `2 ^ 35` is a real of magnitude below `2 ^ 35`. -/
theorem real_of_lt (x : EReal) (h : max x (-x) < ((34359738368 : ℝ) : EReal)) : x = (x.toReal : EReal) ∧ |x.toReal| < 2 ^ 35 := by
  obtain ⟨h1, h2⟩ := max_lt_iff.1 h
  induction x with
  | bot => exact absurd h2 (by simp)
  | top => exact absurd h1 (by simp)
  | coe a =>
    refine ⟨rfl, abs_lt.2 ⟨?_, ?_⟩⟩
    · rw [← EReal.coe_neg, EReal.coe_lt_coe_iff] at h2
      show -2 ^ 35 < a
      norm_num; linarith
    · have := EReal.coe_lt_coe_iff.1 h1
      show a < 2 ^ 35
      norm_num; linarith

/-- The `x` coordinate and the `y` coordinate of element `k`. -/
def xs (fx : FVec Ideal S2000000 .f32) (k : ℕ) : ℝ := if h : k < 128 then EReal.toReal (fx (ix1 ⟨k, by omega⟩)) else 0
def ys (fx : FVec Ideal S2000000 .f32) (k : ℕ) : ℝ := if h : k < 128 then EReal.toReal (fx (ix1 ⟨1000000 + k, by omega⟩)) else 0

theorem and_ones : ∀ a b : BitVec 1, IntOp.andi a b = 1#1 → a = 1#1 ∧ b = 1#1 := by decide

theorem below_of_cmp (x : EReal) (h : Ideal.cmp .olt (max x (-x)) (Ideal.ofBits .f32 0x51000000#32) = 1#1) :
    max x (-x) < ((34359738368 : ℝ) : EReal) := by
  rw [lit_range] at h
  by_contra hc
  simp [Ideal.cmp, hc] at h

/-- A slice of 128 elements read at one. -/
theorem slice_at (fx : FVec Ideal S2000000 .f32) (o : ℕ) (h : S2000000.Slices ![o] S128) (k : ℕ) (hk : k < 128) (ho : o + k < 2000000 := by omega) :
    extractStridedSlice S128 ![o] fx h (ix1 ⟨k, hk⟩) = fx (ix1 ⟨o + k, ho⟩) := by
  show fx _ = fx _
  refine congrArg fx (funext (α := Fin 1) fun a => ?_)
  obtain rfl : a = 0 := Subsingleton.elim _ _
  rfl

/-- A finite sum of reals is the sum of the extended reals. -/
theorem coe_sum {n : ℕ} (g : Fin n → ℝ) : ∑ k, (g k : EReal) = ((∑ k, g k : ℝ) : EReal) := by
  induction n with
  | zero => simp
  | succ n ih => rw [Fin.sum_univ_succ, Fin.sum_univ_succ, ih, EReal.coe_add]

/-- Under the precondition every coordinate read is a real below `2 ^ 35`. -/
theorem coords (fx : FVec Ideal S2000000 .f32) (mask : IVec S128 1)
    (h : Cert.Pre_in_range.fn (F := Ideal) fx mask = fun _ => 1#1) (k : ℕ) (hk : k < 128) :
    (fx (ix1 ⟨k, by omega⟩) = (xs fx k : EReal) ∧ |xs fx k| < 2 ^ 35) ∧ (fx (ix1 ⟨1000000 + k, by omega⟩) = (ys fx k : EReal) ∧ |ys fx k| < 2 ^ 35) := by
  have h1 := congrFun h (ix1 ⟨k, hk⟩)
  unfold Cert.Pre_in_range.fn at h1
  have h2 := and_ones _ _ h1
  have e1 : extractStridedSlice Cert.Pre_in_range.S128 ![0] fx Cert.Pre_in_range.Facts.slices_S2000000_S128_0 (ix1 ⟨k, hk⟩) = fx (ix1 ⟨k, by omega⟩) :=
    (slice_at fx 0 _ k hk).trans (congrArg (fun i => fx (ix1 i)) (Fin.ext (Nat.zero_add _)))
  have e2 : extractStridedSlice Cert.Pre_in_range.S128 ![1000000] fx Cert.Pre_in_range.Facts.slices_S2000000_S128_1000000 (ix1 ⟨k, hk⟩)
      = fx (ix1 ⟨1000000 + k, by omega⟩) := slice_at fx 1000000 _ k hk
  have h3 := real_of_lt _ (below_of_cmp _ h2.1)
  have h4 := real_of_lt _ (below_of_cmp _ h2.2)
  beta_reduce at h3 h4
  rw [e1] at h3
  rw [e2] at h4
  unfold xs ys
  rw [dif_pos hk, dif_pos hk]
  exact ⟨h3, h4⟩

/-! ## The reference's terms -/

open Cert.ReferenceIdeal.Facts₀ in
/-- The reference's angle `π v / 16` of a stretch of 128 elements. -/
def angle (v : FVec Ideal S128 .f32) : FVec Ideal S128 .f32 :=
  Host.divf (mulf (broadcastInDim S128 ![] bcast_S_S128 (Host.acos (constant S_ .f32 0xBF800000#32))) v)
    (broadcastInDim S128 ![] bcast_S_S128 (constant S_ .f32 0x41800000#32))

open Cert.ReferenceIdeal.Facts₀ in
/-- The reference's angle less the nearest multiple of `π`. -/
def rest (v : FVec Ideal S128 .f32) : FVec Ideal S128 .f32 :=
  subf (angle v) (mulf (broadcastInDim S128 ![] bcast_S_S128 (Host.acos (constant S_ .f32 0xBF800000#32)))
    (Host.roundeven (Host.divf (angle v) (broadcastInDim S128 ![] bcast_S_S128 (Host.acos (constant S_ .f32 0xBF800000#32))))))

theorem pi_at (k : S128.Idx) : (broadcastInDim S128 ![] Cert.ReferenceIdeal.Facts₀.bcast_S_S128 (Host.acos (constant S_ .f32 0xBF800000#32)) : FVec Ideal S128 .f32) k
    = ((Real.pi : ℝ) : EReal) := by
  show Ideal.acos (Ideal.ofBits .f32 0xBF800000#32) = _
  rw [lit_neg_one, Ideal.acos_coe, if_pos (by norm_num), Real.arccos_neg_one]

theorem angle_at (v : FVec Ideal S128 .f32) (k : S128.Idx) (a : ℝ) (h : v k = (a : EReal)) :
    angle v k = ((Real.pi * (a / 16) : ℝ) : EReal) := by
  show Ideal.div (_ * v k) (Ideal.ofBits .f32 0x41800000#32) = _
  rw [pi_at, h, lit_sixteen, Ideal.div_coe (by norm_num), ← EReal.coe_mul, ← EReal.coe_mul]
  congr 1; ring

theorem rest_at (v : FVec Ideal S128 .f32) (k : S128.Idx) (a : ℝ) (h : v k = (a : EReal)) :
    rest v k = ((Real.pi * (a / 16 - (Ideal.roundHalfEven (a / 16) : ℝ)) : ℝ) : EReal) := by
  show angle v k - _ * Ideal.liftRound Ideal.roundHalfEven (Ideal.div (angle v k) _) = _
  rw [pi_at, angle_at v k a h, Ideal.div_coe Real.pi_ne_zero, ← EReal.coe_mul,
    show Real.pi * (a / 16) * (1 / Real.pi) = a / 16 by field_simp, Ideal.liftRound_coe, ← EReal.coe_mul, ← EReal.coe_sub]
  congr 1; ring

open Cert.ReferenceIdeal.Facts₀ in
/-- The reference's polynomial: the sine's series up to the eleventh power. -/
def series (t : FVec Ideal S128 .f32) : FVec Ideal S128 .f32 :=
  addf (addf (addf (addf (addf (addf (broadcastInDim S128 ![] bcast_S_S128 (constant S_ .f32 0x00000000#32))
    (Host.divf (mulf (broadcastInDim S128 ![] bcast_S_S128 (constant S_ .f32 0x3F800000#32)) t) (broadcastInDim S128 ![] bcast_S_S128 (constant S_ .f32 0x3F800000#32))))
    (Host.divf (mulf (broadcastInDim S128 ![] bcast_S_S128 (constant S_ .f32 0xBF800000#32)) (mulf (mulf t t) t)) (broadcastInDim S128 ![] bcast_S_S128 (constant S_ .f32 0x40C00000#32))))
    (Host.divf (mulf (broadcastInDim S128 ![] bcast_S_S128 (constant S_ .f32 0x3F800000#32)) (mulf t (mulf (mulf t t) (mulf t t)))) (broadcastInDim S128 ![] bcast_S_S128 (constant S_ .f32 0x42F00000#32))))
    (Host.divf (mulf (broadcastInDim S128 ![] bcast_S_S128 (constant S_ .f32 0xBF800000#32)) (mulf (mulf t (mulf t t)) (mulf (mulf t t) (mulf t t)))) (broadcastInDim S128 ![] bcast_S_S128 (constant S_ .f32 0x459D8000#32))))
    (Host.divf (mulf (broadcastInDim S128 ![] bcast_S_S128 (constant S_ .f32 0x3F800000#32)) (mulf t (mulf (mulf (mulf t t) (mulf t t)) (mulf (mulf t t) (mulf t t))))) (broadcastInDim S128 ![] bcast_S_S128 (constant S_ .f32 0x48B13000#32))))
    (Host.divf (mulf (broadcastInDim S128 ![] bcast_S_S128 (constant S_ .f32 0xBF800000#32)) (mulf (mulf t (mulf t t)) (mulf (mulf (mulf t t) (mulf t t)) (mulf (mulf t t) (mulf t t))))) (broadcastInDim S128 ![] bcast_S_S128 (constant S_ .f32 0x4C184540#32)))

theorem lit_fact3 : Ideal.ofBits .f32 0x40C00000#32 = ((6 : ℝ) : EReal) := by
  simp [Ideal.ofBits, Ideal.ieee, -EReal.coe_mul]; norm_num
theorem lit_fact5 : Ideal.ofBits .f32 0x42F00000#32 = ((120 : ℝ) : EReal) := by
  simp [Ideal.ofBits, Ideal.ieee, -EReal.coe_mul]; norm_num
theorem lit_fact7 : Ideal.ofBits .f32 0x459D8000#32 = ((5040 : ℝ) : EReal) := by
  simp [Ideal.ofBits, Ideal.ieee, -EReal.coe_mul]; norm_num
theorem lit_fact9 : Ideal.ofBits .f32 0x48B13000#32 = ((362880 : ℝ) : EReal) := by
  simp [Ideal.ofBits, Ideal.ieee, -EReal.coe_mul]; norm_num
theorem lit_fact11 : Ideal.ofBits .f32 0x4C184540#32 = ((39916800 : ℝ) : EReal) := by
  simp [Ideal.ofBits, Ideal.ieee, -EReal.coe_mul]; norm_num

theorem series_at (t : FVec Ideal S128 .f32) (k : S128.Idx) (a : ℝ) (h : t k = (a : EReal)) : series t k = ((taylor a : ℝ) : EReal) := by
  show (Ideal.ofBits .f32 0x00000000#32 + Ideal.div (Ideal.ofBits .f32 0x3F800000#32 * t k) (Ideal.ofBits .f32 0x3F800000#32)
    + Ideal.div (Ideal.ofBits .f32 0xBF800000#32 * (t k * t k * t k)) (Ideal.ofBits .f32 0x40C00000#32)
    + Ideal.div (Ideal.ofBits .f32 0x3F800000#32 * (t k * (t k * t k * (t k * t k)))) (Ideal.ofBits .f32 0x42F00000#32)
    + Ideal.div (Ideal.ofBits .f32 0xBF800000#32 * (t k * (t k * t k) * (t k * t k * (t k * t k)))) (Ideal.ofBits .f32 0x459D8000#32)
    + Ideal.div (Ideal.ofBits .f32 0x3F800000#32 * (t k * (t k * t k * (t k * t k) * (t k * t k * (t k * t k))))) (Ideal.ofBits .f32 0x48B13000#32)
    + Ideal.div (Ideal.ofBits .f32 0xBF800000#32 * (t k * (t k * t k) * (t k * t k * (t k * t k) * (t k * t k * (t k * t k))))) (Ideal.ofBits .f32 0x4C184540#32) : EReal) = _
  rw [h, lit_zero, lit_one, lit_neg_one, lit_fact3, lit_fact5, lit_fact7, lit_fact9, lit_fact11, Ideal.div_coe (by norm_num), Ideal.div_coe (by norm_num),
    Ideal.div_coe (by norm_num), Ideal.div_coe (by norm_num), Ideal.div_coe (by norm_num), Ideal.div_coe (by norm_num)]
  simp only [← EReal.coe_mul, ← EReal.coe_add]
  congr 1
  unfold taylor
  ring

/-- The kernel's squared sine is the reference's: the two reductions differ by an integer. -/
theorem square_eq (a : ℝ) : taylor (Real.pi * (a / 16 - (Ideal.roundHalfEven (a / 16) : ℝ))) ^ 2 = square a := by
  obtain ⟨⟨n, hn⟩, hle⟩ := near_spec (a / 16)
  exact taylor_sq_eq (Ideal.roundHalfEven (a / 16) - n) (by rw [hn]; push_cast; ring) (round_spec _) hle

theorem square_near (a : ℝ) : |square a - Real.sin (Real.pi * (a / 16)) ^ 2| ≤ 2381 / 10 ^ 10 := taylor_sq_near (a / 16)

/-- A sum of 128 reals on the host. -/
theorem host_sum (z : FVec Ideal S128 .f32) (g : ℕ → ℝ) (h : ∀ k : Fin 128, z (ix1 k) = (g k.val : EReal)) (hr : S128.ReducesTo [0] S_) (hs : 0 < S_.numel) (j : S_.Idx) :
    Host.reduceAdd z (constant S_ .f32 0x00000000#32) hr hs j = ((∑ k ∈ Finset.range 128, g k : ℝ) : EReal) := by
  show Ideal.hostReduceAdd hr z (Ideal.ofBits .f32 0x00000000#32) j = _
  rw [Ideal.hostReduceAdd_r1_a0, lit_zero, Finset.sum_congr rfl fun k _ => h k, EReal.coe_zero, zero_add, Finset.sum_range, coe_sum]

/-! ## The kernel's result from its launch -/

/-- Under the precondition the kernel's result is the sum of the 128 terms. -/
theorem kernel_value (fx : FVec Ideal S2000000 .f32) (mask : IVec S128 1)
    (h : Cert.Pre_in_range.fn (F := Ideal) fx mask = fun _ => 1#1) (j : S_.Idx) :
    outOf (F := Ideal) (tileOut fx (wordsOf mask)) j = ((∑ k ∈ Finset.range 128, term mask (xs fx) (ys fx) k : ℝ) : EReal) :=
  out_eq fx mask (xs fx) (ys fx) (fun k hk => (coords fx mask h k hk).1.1) (fun k hk => (coords fx mask h k hk).2.1)
    (fun k hk => (coords fx mask h k hk).1.2) (fun k hk => (coords fx mask h k hk).2.2) j

open Cert.ReferenceIdeal.Facts₀ in
/-- The reference's result as a function of its arguments. -/
def refOut (fx : FVec Ideal S2000000 .f32) (mask : IVec S128 1) : FVec Ideal S_ .f32 :=
  Host.reduceAdd (mulf (uitofp .f32 mask)
      (addf (mulf (series (rest (extractStridedSlice S128 ![0] fx slices_S2000000_S128_0))) (series (rest (extractStridedSlice S128 ![0] fx slices_S2000000_S128_0))))
        (mulf (series (rest (extractStridedSlice S128 ![1000000] fx slices_S2000000_S128_1000000))) (series (rest (extractStridedSlice S128 ![1000000] fx slices_S2000000_S128_1000000))))))
    (constant S_ .f32 0x00000000#32) reducesTo_S128_S_d0 h_S_

theorem mask_at (mask : IVec S128 1) (k : Fin 128) : (uitofp .f32 mask : FVec Ideal S128 .f32) (ix1 k)
    = ((if h : k.val < 128 then ((mask (ix1 ⟨k.val, h⟩)).toNat : ℝ) else 0 : ℝ) : EReal) := by
  rw [dif_pos k.isLt]; rfl

/-- Under the precondition the reference's result is the sum of the same 128 terms. -/
theorem reference_value (fx : FVec Ideal S2000000 .f32) (mask : IVec S128 1)
    (h : Cert.Pre_in_range.fn (F := Ideal) fx mask = fun _ => 1#1) (j : S_.Idx) :
    refOut fx mask j = ((∑ k ∈ Finset.range 128, term mask (xs fx) (ys fx) k : ℝ) : EReal) := by
  refine host_sum (mulf _ _) _ (fun k => ?_) Cert.ReferenceIdeal.Facts₀.reducesTo_S128_S_d0 Cert.ReferenceIdeal.Facts₀.h_S_ j
  have hc := coords fx mask h k.val k.isLt
  have e1 := (slice_at fx 0 Cert.ReferenceIdeal.Facts₀.slices_S2000000_S128_0 k.val k.isLt).trans ((congrArg (fun i => fx (ix1 i)) (Fin.ext (Nat.zero_add _))).trans hc.1.1)
  have e2 := (slice_at fx 1000000 Cert.ReferenceIdeal.Facts₀.slices_S2000000_S128_1000000 k.val k.isLt).trans hc.2.1
  show (uitofp .f32 mask : FVec Ideal S128 .f32) (ix1 k) * (series (rest _) (ix1 k) * series (rest _) (ix1 k) + series (rest _) (ix1 k) * series (rest _) (ix1 k)) = _
  rw [mask_at, series_at _ _ _ (rest_at _ _ _ e1), series_at _ _ _ (rest_at _ _ _ e2)]
  simp only [← EReal.coe_mul, ← EReal.coe_add]
  rw [← pow_two, ← pow_two, square_eq, square_eq]
  rfl

/-- The printed reference's result is `refOut` of its arguments. -/
theorem reference_out (V : Valuation Cert.ReferenceIdeal.τ Cert.ReferenceIdeal.sig (Elt Ideal)) :
    (Host.reduceAdd (mulf (uitofp .f32 (V (Proc.devRef .tc Cert.ReferenceIdeal.main_arg1))) (addf (mulf (Cert.ReferenceIdeal.Value.res_main_v63 V) (Cert.ReferenceIdeal.Value.res_main_v63 V))
        (mulf (Cert.ReferenceIdeal.Value.res_main_v124 V) (Cert.ReferenceIdeal.Value.res_main_v124 V)))) (constant S_ .f32 0x00000000#32)
        Cert.ReferenceIdeal.Facts₀.reducesTo_S128_S_d0 Cert.ReferenceIdeal.Facts₀.h_S_ : FVec Ideal S_ .f32)
      = refOut (V (Proc.devRef .tc Cert.ReferenceIdeal.main_arg0)) (V (Proc.devRef .tc Cert.ReferenceIdeal.main_arg1)) := rfl

/-- The kernel's result is the reference's, exactly. -/
theorem value_equal : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m ρ m' ρ' hpre hagree
  refine ⟨fun c => outOf (F := Ideal) (Om (F := Ideal) m c), (θ_run _ _ _).mono (fun _ h c => h.1 c) (run_main (F := Ideal) m ρ),
    (θ_run Cert.ReferenceIdeal.defs _ _).mono (fun r h c => ⟨(h c).1.trans ?_, (h c).2⟩) (Cert.ReferenceIdeal.Value.run (F := Ideal) m' ρ')⟩
  rw [reference_out]
  have e0 : StableHlo.launchContents m' c (Proc.devRef .tc Cert.ReferenceIdeal.main_arg0) = m (xLoc c) := (hagree c).1
  have e1 : StableHlo.launchContents m' c (Proc.devRef .tc Cert.ReferenceIdeal.main_arg1) = m (mLoc c) := (hagree c).2
  rw [e0, e1]
  funext j
  exact (reference_value _ _ (hpre c) j).trans (kernel_value _ _ (hpre c) j).symm

/-! ## The true sine -/

theorem lit_bound : Ideal.ofBits .f32 0x38800000#32 = ((1 / 16384 : ℝ) : EReal) := by
  simp [Ideal.ofBits, Ideal.ieee, -EReal.coe_mul]; norm_num

/-- One element's term with the true sine. -/
def sineTerm (mask : IVec S128 1) (X Y : ℕ → ℝ) (k : ℕ) : ℝ :=
  (if h : k < 128 then ((mask (ix1 ⟨k, h⟩)).toNat : ℝ) else 0) * (Real.sin (Real.pi * (X k / 16)) ^ 2 + Real.sin (Real.pi * (Y k / 16)) ^ 2)

theorem term_near (mask : IVec S128 1) (X Y : ℕ → ℝ) (k : ℕ) : |term mask X Y k - sineTerm mask X Y k| ≤ 2 * (2381 / 10 ^ 10) := by
  have hx := square_near (X k)
  have hy := square_near (Y k)
  have hm : 0 ≤ (if h : k < 128 then ((mask (ix1 ⟨k, h⟩)).toNat : ℝ) else 0) ∧ (if h : k < 128 then ((mask (ix1 ⟨k, h⟩)).toNat : ℝ) else 0) ≤ 1 := by
    split
    · refine ⟨Nat.cast_nonneg _, ?_⟩
      have := (mask (ix1 ⟨k, ‹_›⟩)).isLt
      exact_mod_cast (by omega : (mask (ix1 ⟨k, ‹_›⟩)).toNat ≤ 1)
    · exact ⟨le_refl 0, zero_le_one⟩
  unfold term sineTerm
  generalize (if h : k < 128 then ((mask (ix1 ⟨k, h⟩)).toNat : ℝ) else 0) = b at *
  rw [← mul_sub, abs_mul, abs_of_nonneg hm.1]
  have h2 : |square (X k) + square (Y k) - (Real.sin (Real.pi * (X k / 16)) ^ 2 + Real.sin (Real.pi * (Y k / 16)) ^ 2)| ≤ 2 * (2381 / 10 ^ 10) := by
    rw [add_sub_add_comm]
    exact (abs_add_le _ _).trans (by linarith)
  calc b * _ ≤ 1 * (2 * (2381 / 10 ^ 10)) := mul_le_mul hm.2 h2 (abs_nonneg _) zero_le_one
    _ = _ := one_mul _

theorem sum_near (mask : IVec S128 1) (X Y : ℕ → ℝ) :
    |∑ k ∈ Finset.range 128, term mask X Y k - ∑ k ∈ Finset.range 128, sineTerm mask X Y k| ≤ 1 / 16384 := by
  rw [← Finset.sum_sub_distrib]
  refine (Finset.abs_sum_le_sum_abs _ _).trans ((Finset.sum_le_sum fun k _ => term_near mask X Y k).trans ?_)
  rw [Finset.sum_const, Finset.card_range]
  norm_num

/-- The loss with the true sine, on the host. -/
def sineLoss (fx : FVec Ideal S2000000 .f32) (mask : IVec S128 1) : FVec Ideal S_ .f32 :=
  Host.reduceAdd (mulf (uitofp .f32 mask)
      (addf (mulf (Host.sin (angle (extractStridedSlice S128 ![0] fx Cert.ReferenceIdeal.Facts₀.slices_S2000000_S128_0)))
          (Host.sin (angle (extractStridedSlice S128 ![0] fx Cert.ReferenceIdeal.Facts₀.slices_S2000000_S128_0))))
        (mulf (Host.sin (angle (extractStridedSlice S128 ![1000000] fx Cert.ReferenceIdeal.Facts₀.slices_S2000000_S128_1000000)))
          (Host.sin (angle (extractStridedSlice S128 ![1000000] fx Cert.ReferenceIdeal.Facts₀.slices_S2000000_S128_1000000))))))
    (constant S_ .f32 0x00000000#32) Cert.ReferenceIdeal.Facts₀.reducesTo_S128_S_d0 Cert.ReferenceIdeal.Facts₀.h_S_

theorem sine_value (fx : FVec Ideal S2000000 .f32) (mask : IVec S128 1)
    (h : Cert.Pre_in_range.fn (F := Ideal) fx mask = fun _ => 1#1) (j : S_.Idx) :
    sineLoss fx mask j = ((∑ k ∈ Finset.range 128, sineTerm mask (xs fx) (ys fx) k : ℝ) : EReal) := by
  refine host_sum (mulf _ _) _ (fun k => ?_) Cert.ReferenceIdeal.Facts₀.reducesTo_S128_S_d0 Cert.ReferenceIdeal.Facts₀.h_S_ j
  have hc := coords fx mask h k.val k.isLt
  have e1 := (slice_at fx 0 Cert.ReferenceIdeal.Facts₀.slices_S2000000_S128_0 k.val k.isLt).trans ((congrArg (fun i => fx (ix1 i)) (Fin.ext (Nat.zero_add _))).trans hc.1.1)
  have e2 := (slice_at fx 1000000 Cert.ReferenceIdeal.Facts₀.slices_S2000000_S128_1000000 k.val k.isLt).trans hc.2.1
  show (uitofp .f32 mask : FVec Ideal S128 .f32) (ix1 k)
    * (Ideal.sin (angle _ (ix1 k)) * Ideal.sin (angle _ (ix1 k)) + Ideal.sin (angle _ (ix1 k)) * Ideal.sin (angle _ (ix1 k))) = _
  rw [mask_at, angle_at _ _ _ e1, angle_at _ _ _ e2, Ideal.sin_coe, Ideal.sin_coe]
  simp only [← EReal.coe_mul, ← EReal.coe_add]
  rw [← pow_two, ← pow_two]
  rfl

/-- The postcondition compares the distance to the true sine's loss with the bound. -/
theorem post_eq (fx : FVec Ideal S2000000 .f32) (mask : IVec S128 1) (o : FVec Ideal S_ .f32) (j : S_.Idx) :
    Cert.Post_near_the_sines.fn (F := Ideal) fx mask o j
      = Ideal.cmp .ole (max (o j - sineLoss fx mask j : EReal) (-(o j - sineLoss fx mask j))) (Ideal.ofBits .f32 0x38800000#32) := rfl

/-- The kernel's result is within `2 ^ -14` of the loss with the true sine. -/
theorem near_sines : Cert.holds_KernelIdeal_near_the_sines_pre_in_range (hKernelIdeal := Cert.KernelIdeal.Gen.facts)
    (hPre_in_range := Cert.Pre_in_range.Gen.facts) (hPost_near_the_sines := Cert.Post_near_the_sines.Gen.facts) := by
  intro m ρ hpre
  refine (θ_run _ _ _).mono (fun r h c => ⟨(h.1 c).2.1, (h.1 c).2.2, ?_⟩) (run_main (F := Ideal) m ρ)
  rw [show r.2.mem ((c.tc : Thread Cert.KernelIdeal.nD Cert.KernelIdeal.τ).loc Cert.KernelIdeal.main_v5) = outOf (F := Ideal) (Om (F := Ideal) m c) from (h.1 c).1]
  funext j
  have hk : outOf (F := Ideal) (Om m c) j = _ := kernel_value (m (xLoc c)) (m (mLoc c)) (hpre c) j
  refine (post_eq _ _ _ j).trans ?_
  rw [hk, sine_value _ _ (hpre c) j, lit_bound, ← EReal.coe_sub, ← EReal.coe_neg]
  have hn := abs_le.1 (sum_near (m (mLoc c)) (xs (m (xLoc c))) (ys (m (xLoc c))))
  have hle : max (((∑ k ∈ Finset.range 128, term (m (mLoc c)) (xs (m (xLoc c))) (ys (m (xLoc c))) k
        - ∑ k ∈ Finset.range 128, sineTerm (m (mLoc c)) (xs (m (xLoc c))) (ys (m (xLoc c))) k : ℝ)) : EReal)
      ((-(∑ k ∈ Finset.range 128, term (m (mLoc c)) (xs (m (xLoc c))) (ys (m (xLoc c))) k
        - ∑ k ∈ Finset.range 128, sineTerm (m (mLoc c)) (xs (m (xLoc c))) (ys (m (xLoc c))) k) : ℝ) : EReal) ≤ ((1 / 16384 : ℝ) : EReal) :=
    max_le (EReal.coe_le_coe_iff.2 hn.2) (EReal.coe_le_coe_iff.2 (by linarith [hn.1]))
  simp only [Ideal.cmp, decide_eq_true hle]
  rfl

end Cert.Proof.Loss

end
-- ==== Proof.Probe.lean ====
/-
  The scalar-subcore call of the other version, with the host code around it: the sequencer writes eight zeros into its
  scalar memory and copies them out, and the program returns the first. Its run over any float instance, its frames, and
  that its result is zero, bit for bit and at the reals.
-/
module

public import proofs.«01_k».proof.Defs
public import proofs.«01_k».proof.Proof.Gen.Probe
public import proofs.«01_k».proof.Proof.Gen.ProbeIdeal
public import proofs.«01_k».proof.Proof.Gen.ProbeIdeal.Skeleton
public import proofs.«01_k».proof.Proof.Gen.Zero
public import proofs.«01_k».proof.Proof.Gen.Zero.Run
public import proofs.«01_k».proof.Proof.Gen.ZeroIdeal
public import proofs.«01_k».proof.Proof.Gen.ZeroIdeal.Run
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Writes
public import Idealize.ShloMosaic.Lib.Tactic

@[expose] public section

noncomputable section

namespace Cert.Proof.Zeros

open Cert.ProbeIdeal Cert.ProbeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

/-! ## The program as the launch theorem sees it -/

/-- The labels of the kernels' body table. -/
abbrev ΛP : Labels := Pipeline.Sig Λ₀ (Fin 0) fun p => (pcfgs (F := F) p).Adm

variable [FloatOps F]

/-- The one SparseCore call's configuration. -/
abbrev K : SparseCore.Cfg τ sig (ΛP (F := F)) 1 := sc (F := F)
/-- No loop variants are needed. -/
abbrev 𝒱₀ : Variants := Variants.none
abbrev 𝒱 : Variants := 𝒱₀.lift
abbrev v₀ : 𝒱.V := Sum.inl none

/-- The configuration's side conditions: four distinct launch semaphores, none scoped, nothing shared by tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev xLoc (d : Dev nD) : Loc nD τ sig := (SparseCore.T d).loc main_arg0
abbrev mLoc (d : Dev nD) : Loc nD τ sig := (SparseCore.T d).loc main_arg1
abbrev oLoc (d : Dev nD) : Loc nD τ sig := (SparseCore.T d).loc main_v0

local notation "oV" => (Memref.whole Cert.ProbeIdeal.main_v0_scs : Memref Cert.ProbeIdeal.sig Kind.scScalar Space.hbm Cert.ProbeIdeal.S8 EltTy.f32)
local notation "sV" => (Memref.whole Cert.ProbeIdeal.cc0_scratch0 : Memref Cert.ProbeIdeal.sig Kind.scScalar Space.smem Cert.ProbeIdeal.S8 EltTy.f32)

/-- The float zero. -/
abbrev z : F .f32 := Scalar.ofBits .f32 0x00000000#32
/-- The call's result: eight zeros. -/
def zeros : FVec F S8 .f32 := fun _ => z

abbrev oPts (d : Dev nD) (f : Buf (Elt F) (oLoc d)) : sProp 𝕄 := oLoc d ↦{fullShare} f

/-! ## The sequencer's body -/

section Body

variable (d : Dev nD) (L : grid0.Coords)

abbrev cS (L : grid0.Coords) : Fin τ.nSC := (L 0).castLE hcore0

omit [FloatOps F] in
theorem pts_oV (f : Buf (Elt F) (oLoc d)) : ((oV).view.loc (S d (cS L)) ↦{fullShare} f : sProp 𝕄) = oLoc d ↦{fullShare} f := rfl
omit [FloatOps F] in
theorem pts_sV (f : Buf (Elt F) ((S d (cS L)).loc cc0_scratch0)) :
    ((sV).view.loc (S d (cS L)) ↦{fullShare} f : sProp 𝕄) = (S d (cS L)).loc cc0_scratch0 ↦{fullShare} f := rfl

/-- The write-out's semaphore cell. -/
abbrev cell (c : Fin τ.nSC) : GSem nD τ sig := (S d c, .dma cc0_scoped0.sem)

omit [FloatOps F] in
theorem ownSems0_S : (ownSems0 (S d (cS L)) : sProp 𝕄)
    = iprop(semVal (cell d (cS L)) 0 ∗ bigSep ((ownCells (S d (cS L))).erase (cell d (cS L))) fun g => semVal g 0) := by
  unfold SparseCore.Cfg.ownSems0
  exact SparseCore.bigSep_erase' ((mem_ownCells (g := cell d (cS L))).mpr ⟨rfl, by
    show (SemLoc.dma cc0_scoped0.sem : SemLoc sig).isScoped .scScalar = true; decide⟩)

omit [FloatOps F] in
theorem ownBufs_S : (ownBufs (S d (cS L)) : sProp 𝕄)
    = iprop((∃ f, (S d (cS L)).loc cc0_scratch0 ↦{fullShare} f)
        ∗ bigSep ((ownRefs (τ := τ) (.scScalar (cS L))).erase ((Proc.scScalar (cS L)).devRef cc0_scratch0))
            fun b => iprop(∃ f, ((d, b) : Loc nD τ sig) ↦{fullShare} f)) := by
  unfold SparseCore.Cfg.ownBufs
  exact SparseCore.bigSep_erase' (SparseCore.Cfg.mem_ownRefs_of_owner (p := Proc.scScalar (cS L)) (b := (Proc.scScalar (cS L)).devRef cc0_scratch0) rfl)

set_option maxHeartbeats 1000000 in
/-- The sequencer leaves eight zeros in the result. -/
theorem body (fo : Buf (Elt F) (oLoc d)) (hF : (K (F := F)).Facts) (O : CellTallies nD τ sig (HIx 1)) (W : Waits sig (HIx 1)) (hO : ∀ g, O g none = 0) :
    iprop(levAts (K (F := F)).L (K (F := F)).lev ∗ emp ∗ oPts d fo
        ∗ scopedBufs (S d (cS L)) ∗ scopedSems0 (S d (cS L)) ∗ owes (S d (cS L)) O W)
      ⊢ wp frame (wpE (defs₀ (F := F)) 𝒱₀ (S d (cS L)) none) Set.univ
          (cc0__probe L oV (Memref.isWhole_whole _) sV (Memref.isWhole_whole _) cc0_scoped0)
          fun _ => iprop(oPts d zeros ∗ scopedBufs (S d (cS L)) ∗ scopedSems0 (S d (cS L))
            ∗ ∃ W', ⌜∀ p ∈ W', p ∈ W ∨ p.2 = none⌝ ∗ owes (S d (cS L)) O W') := by
  simp only [cc0__probe_eq_skeleton]; unfold cc0__probe_skel
  rw [(K (F := F)).scopedBufs_S hF d (cS L), SparseCore.Cfg.scopedSems0_S (Val := Elt F) d (cS L), ownSems0_S, ownBufs_S]
  iintro ⟨#Hlv, -, Ho, ⟨⟨⟨%f0, H0⟩, Hbufs⟩, Hvb⟩, ⟨⟨Hsem, Hsems⟩, Hvs⟩, HO⟩
  ihave Hmw := (show levAts (K (F := F)).L (K (F := F)).lev ⊢ Transfers.MayWaits (S d (cS L)) (default : HIx 1) O from
    (K (F := F)).mayWaits_none (thr := S d (cS L)) hO) $$ Hlv
  ihave Ho' := (Entails.of_eq (pts_oV (F := F) d L _).symm) $$ Ho
  ihave H0' := (Entails.of_eq (pts_sV (F := F) d L _).symm) $$ H0
  sl_exec
  sl_step
  isplitl [Ho']
  · have hval : (View.write (Elt F) (oV).view fo (body.sl.dma16 d L f0) Finset.univ) = zeros := by
      rw [View.write_whole_univ]
      delta body.sl.dma16
      funext y
      refine (View.read_writes_apply_of_pieces (Val := Elt F) (e := .f32) (v := (sV).view) (f := f0)
        (fun _ => (z : F .f32)) body.sl.H0'_8 ?_ y ?_)
      · intro p hp x
        delta body.sl.H0'_8 at hp
        simp only [List.mem_cons, List.not_mem_nil, or_false] at hp
        rcases hp with rfl | rfl | rfl | rfl | rfl | rfl | rfl | rfl <;> rfl
      · delta body.sl.H0'_8
        exact View.cover_of_tiled _ ![1] rfl y
    rw [hval]
    iapply (Entails.of_eq (pts_oV (F := F) d L _)); iexact Ho'
  isplitl [H0' Hbufs Hvb]
  · isplitl [H0' Hbufs]
    · isplitl [H0']; · iexists _; iexact H0'
      iexact Hbufs
    iexact Hvb
  isplitl [Hsem Hsems Hvs]
  · isplitl [Hsem Hsems]
    · isplitl [Hsem]; · iexact Hsem
      iexact Hsems
    iexact Hvs
  iexists _; isplitr
  swap; · iexact HO
  ipureintro; intro p hp
  rcases Finset.mem_insert.mp hp with hp | hp; · exact .inr (hp ▸ rfl)
  exact .inl hp

end Body

/-! ## The host's operations -/

variable (m : (ℓ : Loc nD τ sig) → Buf (Elt F) ℓ) (ρ : Dev nD → PrngReg)

abbrev bX : DevRef τ sig := Proc.devRef .tc (main_arg0 : Ref sig .tc)
abbrev bMask : DevRef τ sig := Proc.devRef .tc (main_arg1 : Ref sig .tc)
abbrev bO : DevRef τ sig := Proc.devRef .tc (main_v0 : Ref sig .tc)
abbrev b1 : DevRef τ sig := Proc.devRef .tc (main_v1 : Ref sig .tc)
abbrev b2 : DevRef τ sig := Proc.devRef .tc (main_v2 : Ref sig .tc)

abbrev opHead : HloOp τ sig (Elt F) := StableHlo.unary main_v0 main_v1 ((extractStridedSlice S1 ![0] · slices_S8_S1_0) : (⟨S8, .f32⟩ : BufTy).Contents (Elt F) → (⟨S1, .f32⟩ : BufTy).Contents (Elt F))
abbrev opScalar : HloOp τ sig (Elt F) := StableHlo.reshape main_v1 main_v2 (rfl : (.f32 : EltTy) = .f32) shapeCasts_S1_S_

/-- The host's arrays. -/
abbrev arrays : Finset (DevRef τ sig) := {bX, bMask, bO, b1, b2}

theorem hHead : (opHead (F := F)).bufs ⊆ arrays := show ({bO, b1} : Finset (DevRef τ sig)) ⊆ arrays by decide
theorem hScalar : (opScalar (F := F)).bufs ⊆ arrays := show ({b1, b2} : Finset (DevRef τ sig)) ⊆ arrays by decide

/-- The arrays' contents at the launch, after the call, and at the end. -/
def V0 (d : Dev nD) : Valuation τ sig (Elt F) := fun b => m (d, b)
def V1 (d : Dev nD) : Valuation τ sig (Elt F) := Function.update (V0 m d) bO (zeros : FVec F S8 .f32)
def V3 (d : Dev nD) : Valuation τ sig (Elt F) := (opScalar (F := F)).result ((opHead (F := F)).result (V1 m d))

theorem V1_ne (d : Dev nD) {b : DevRef τ sig} (h : b ≠ bO) : V1 m d b = V0 m d b := Function.update_of_ne h _ _
theorem V1_o (d : Dev nD) : V1 m d bO = (zeros : FVec F S8 .f32) := Function.update_self _ _ _

theorem V3_x (d : Dev nD) : V3 m d bX = m (xLoc d) := by
  unfold V3
  rw [(opScalar (F := F)).result_of_not_mem _ (show bX ∉ ({b2} : Finset (DevRef τ sig)) by decide),
    (opHead (F := F)).result_of_not_mem _ (show bX ∉ ({b1} : Finset (DevRef τ sig)) by decide), V1_ne m d (by decide)]
  rfl
theorem V3_mask (d : Dev nD) : V3 m d bMask = m (mLoc d) := by
  unfold V3
  rw [(opScalar (F := F)).result_of_not_mem _ (show bMask ∉ ({b2} : Finset (DevRef τ sig)) by decide),
    (opHead (F := F)).result_of_not_mem _ (show bMask ∉ ({b1} : Finset (DevRef τ sig)) by decide), V1_ne m d (by decide)]
  rfl
/-- The program's result is zero. -/
theorem V3_out (d : Dev nD) : V3 m d b2 = (constant S_ .f32 0x00000000#32 : FVec F S_ .f32) := by
  unfold V3
  refine (StableHlo.reshape_result _ _ _ _ _ _ _).trans ?_
  rw [show (opHead (F := F)).result (V1 m d) (Proc.devRef .tc main_v1) = _ from StableHlo.unary_result _ _ _ _ _ _,
    show V1 m d (Proc.devRef .tc main_v0) = (zeros : FVec F S8 .f32) from V1_o m d]
  rfl

omit [FloatOps F] in
theorem held_arrays (d : Dev nD) (W : Valuation τ sig (Elt F)) :
    (held (T d) arrays W : sProp 𝕄)
      = iprop((xLoc d ↦{fullShare} W bX) ∗ (mLoc d ↦{fullShare} W bMask) ∗ (oLoc d ↦{fullShare} W bO)
          ∗ ((SparseCore.T d).loc main_v1 ↦{fullShare} W b1) ∗ (SparseCore.T d).loc main_v2 ↦{fullShare} W b2) := by
  unfold held arrays
  rw [SparseCore.bigSep_insert' (by decide), SparseCore.bigSep_insert' (by decide), SparseCore.bigSep_insert' (by decide),
    SparseCore.bigSep_insert' (by decide), bigSep_singleton]

omit [FloatOps F] in
theorem unscoped_held (d : Dev nD) : (unscopedBufs d (fun b => m ((SparseCore.T d).loc b)) : sProp 𝕄) = held (T d) arrays (V0 m d) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton, held_arrays]
  rfl

/-! ## What the call's handshakes carry -/

/-- The sequencer takes the result's array whole and brings it back at zero. -/
def P : (K (F := F)).Pay (nD := nD) (Val := Elt F) (Name := ℕ) (U := UU) where
  st := fun q d _ => match q with | 0 => oPts d (m (oLoc d))
  dn := fun q d _ => match q with | 0 => oPts d (zeros : FVec F S8 .f32)
  go := fun _ _ _ _ => iprop(emp)
  td := fun _ _ _ _ => iprop(emp)
  x := fun _ _ => iprop(emp)

instance P_storable : (P (F := F) m).IsStorable where
  st q d _ := match q with
    | 0 => (inferInstance : BI.Storable (upEmb : UEmb _ 𝕄) (oPts d (m (oLoc d))))
  dn q d _ := match q with
    | 0 => (inferInstance : BI.Storable (upEmb : UEmb _ 𝕄) (oPts d (zeros : FVec F S8 .f32)))
  go _ _ _ _ := (inferInstance : BI.Storable (upEmb : UEmb _ 𝕄) iprop(emp))
  td _ _ _ _ := (inferInstance : BI.Storable (upEmb : UEmb _ 𝕄) iprop(emp))

/-! ## The sequencer's obligation -/

abbrev D : Defs nD τ sig (Elt F) (ΛP (F := F)) := Pipeline.defs pcfgs defs₀

def coordsS (c : Fin (grid0.bound 0)) : grid0.Coords :=
  fun | 0 => c | ⟨_ + 1, h⟩ => absurd h (Nat.not_lt.2 (Nat.le_add_left _ _))

theorem defs₀_scalar (c : Fin τ.nSC) :
    defs₀ (F := F) (.scScalar c) 0 ()
      = SparseCore.onCore hcore0 (fun c => cc0__probe (coordsS c) oV (Memref.isWhole_whole _) sV (Memref.isWhole_whole _) cc0_scoped0) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The sequencer runs its body from what it is handed and hands back the zeros. -/
theorem scalarObl (hF : (K (F := F)).Facts) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact (body d (coordsS ⟨_, hc⟩) (m (oLoc d)) hF O W hO).trans (wp_mono frame _ _ fun _ => obl_post)

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host's thread -/

theorem st0_eq (d : Dev nD) : (bigSep Finset.univ fun c : Fin ((K (F := F)).nCore 0) => (P m).st 0 d c) = oPts d (m (oLoc d)) :=
  bigSep_univ_of_subsingleton (0 : Fin 1)
theorem dn0_eq (d : Dev nD) : (bigSep Finset.univ fun c : Fin ((K (F := F)).nCore 0) => (P m).dn 0 d c) = oPts d (zeros : FVec F S8 .f32) :=
  bigSep_univ_of_subsingleton (0 : Fin 1)

/-- The program's result location. -/
abbrev rLoc (d : Dev nD) : Loc nD τ sig := (SparseCore.T d).loc main_v2
/-- The program's result. -/
abbrev res (d : Dev nD) : Buf (Elt F) (rLoc d) := (constant S_ .f32 0x00000000#32 : FVec F S_ .f32)

/-- What the host keeps to the end: the arguments as they were, and the result. -/
abbrev FIN (d : Dev nD) : sProp 𝕄 :=
  iprop((xLoc d ↦{fullShare} m (xLoc d)) ∗ (mLoc d ↦{fullShare} m (mLoc d)) ∗ rLoc d ↦{fullShare} res d)

/-- The host's thread: the call, then the first element of its result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, held_arrays]
  simp only [main, wp_bind, wp_pure]
  iintro ⟨#Hctx, Hst, ⟨Hb, ⟨Hx, Hm, Ho, H1, H2⟩, Hts, -⟩, -⟩
  iapply ((K (F := F)).wp_run (D (F := F)) 𝒱 (EH := EH) (P := P m) κ d 0) $$ [Hst Hx Hm Ho H1 H2 Hb Hts]
  isplitr; · iexact Hctx
  isplitl [Hst]; · iexact Hst
  isplitl [Ho]; · rw [st0_eq]; iexact Ho
  iintro ⟨Hst, Hdn⟩
  ihave Ho := (Entails.of_eq (dn0_eq m d)) $$ Hdn
  iapply (wp_hlo_within 𝒱 (SparseCore.T d) none Set.univ (op := opHead) (S := arrays) hHead (V := V1 m d)) $$ [Hb Hx Hm Ho H1 H2]
  · isplitl [Hb]; · iexact Hb
    rw [held_arrays, V1_o, V1_ne m d (b := bX) (by decide), V1_ne m d (b := bMask) (by decide), V1_ne m d (b := b1) (by decide), V1_ne m d (b := b2) (by decide)]
    isplitl [Hx]; · iexact Hx
    isplitl [Hm]; · iexact Hm
    isplitl [Ho]; · iexact Ho
    isplitl [H1]; · iexact H1
    iexact H2
  iintro ⟨Hb, Hheld⟩
  rw [wp_ret]; imodintro
  iapply (wp_hlo_within 𝒱 (SparseCore.T d) none Set.univ (op := opScalar) (S := arrays) hScalar (V := (opHead (F := F)).result (V1 m d))) $$ [Hb Hheld]
  · isplitl [Hb] <;> iassumption
  iintro ⟨Hb, Hheld⟩
  ihave Hh := (Entails.of_eq (show (held (T d) arrays ((opScalar (F := F)).result ((opHead (F := F)).result (V1 m d))) : sProp 𝕄) = _ from held_arrays d (V3 m d))) $$ Hheld
  rw [V3_x, V3_mask, V3_out]
  icases Hh with ⟨Hx, Hm, -, -, Hr⟩
  rw [wp_ret]; imodintro; imodintro
  isplitl [Hst]; · iexact Hst
  isplitr [Hb Hts]
  · isplitl [Hx]; · iexact Hx
    isplitl [Hm]; · iexact Hm
    iexact Hr
  isplitl [Hb] <;> iassumption

/-- What the claims read of a final state. -/
def fq (d : Dev nD) (s' : Phys nD τ sig (Elt F)) : Prop :=
  s'.mem.mem (rLoc d) = res d ∧ s'.mem.mem (xLoc d) = m (xLoc d) ∧ s'.mem.mem (mLoc d) = m (mLoc d)

set_option maxRecDepth 16384 in
theorem hfin (d : Dev nD) (s' : Phys nD τ sig (Elt F)) : iprop(FIN m d ∗ SI s') ⊢ (⌜fq m d s'⌝ : sProp 𝕄) := by
  iintro ⟨⟨Hx, Hm, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := mLoc d) (I := Finset.univ) (q := fullShare) (f := m (mLoc d)))) $$ [HSI Hm]
  · isplitl [HSI] <;> iassumption
  icases H with ⟨%hm, HSI, -⟩
  ihave H := (SI_pointsTo_agree (st := s') (ℓ := rLoc d) (I := Finset.univ) (q := fullShare) (f := res d)) $$ [HSI Hr]
  · isplitl [HSI] <;> iassumption
  icases H with %hr
  ipureintro
  exact ⟨funext fun i => hr i (Finset.mem_univ i), funext fun i => hx i (Finset.mem_univ i), funext fun i => hm i (Finset.mem_univ i)⟩

/-! ## The program's run -/

def QC : PUnit × MemSt nD τ sig (Elt F) → Prop := fun r =>
  (∀ c : Dev nD, r.2.mem (rLoc c) = res c ∧ r.2.mem (xLoc c) = m (xLoc c) ∧ r.2.mem (mLoc c) = m (mLoc c)) ∧ r.2.sem = fun _ => 0

/-- From any memory with zero counters, every weakly fair execution terminates with the result zero, the arguments
    unchanged and every counter at zero. -/
theorem run_main [∀ e, Nonempty (Elt F e)] : θ_run (Cert.ProbeIdeal.defs (F := F)) (Cert.ProbeIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m facts)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

/-! ## The claims -/

/-- The call as written runs, leaves its arguments as they were and every counter at zero. -/
theorem frame_probe : Cert.quiescent_Probe (hProbe := Cert.Probe.Gen.facts) := fun m ρ _ =>
  (θ_run (Cert.ProbeIdeal.defs (F := Bits)) (Cert.ProbeIdeal.threads (F := Bits)) ⟨m, fun _ => 0, ρ⟩).mono
    (fun _ h => ⟨fun c => (h.1 c).2, h.2⟩) (run_main (F := Bits) m ρ)

/-- The same at the reals. -/
theorem frame_probe_ideal : Cert.quiescent_ProbeIdeal (hProbeIdeal := Cert.ProbeIdeal.Gen.facts) := fun m ρ _ =>
  (θ_run _ _ _).mono (fun _ h => ⟨fun c => (h.1 c).2, h.2⟩) (run_main (F := Ideal) m ρ)

/-- The host's zero at the reals: it has no semaphore. -/
theorem frame_zero_ideal : Cert.quiescent_ZeroIdeal (hZeroIdeal := Cert.ZeroIdeal.Gen.facts) := fun m ρ _ =>
  (θ_run Cert.ZeroIdeal.defs _ _).mono (fun r h => ⟨fun c => (h c).2, sem_eq_zero_of_no_sems (by decide) r.2⟩)
    (Cert.ZeroIdeal.Value.run (F := Ideal) m ρ)

/-- The host's zero at the bits. -/
theorem frame_zero : Cert.quiescent_Zero (hZero := Cert.Zero.Gen.facts) := fun m ρ _ =>
  (θ_run Cert.Zero.defs _ _).mono (fun r h => ⟨fun c => (h c).2, sem_eq_zero_of_no_sems (by decide) r.2⟩)
    (Cert.Zero.Value.run (F := Bits) m ρ)

/-- The call has no constant to name. -/
theorem nothing_named : Cert.preserves_Probe_ProbeIdeal := trivial

/-- The call's program returns the zero of bits 0, whatever its arguments. -/
theorem zero_bits : Cert.bitexact_Probe_Zero (hProbe := Cert.Probe.Gen.facts) (hZero := Cert.Zero.Gen.facts) := fun m ρ m' ρ' _ _ =>
  ⟨fun _ => (constant S_ .f32 0x00000000#32 : FVec Bits S_ .f32),
    (θ_run (Cert.ProbeIdeal.defs (F := Bits)) (Cert.ProbeIdeal.threads (F := Bits)) ⟨m, fun _ => 0, ρ⟩).mono (fun _ h => h.1) (run_main (F := Bits) m ρ),
    Cert.Zero.Value.run (F := Bits) m' ρ'⟩

/-- The same at the reals: the number 0. -/
theorem zero_reals : Cert.algebraic_ProbeIdeal_ZeroIdeal (hProbeIdeal := Cert.ProbeIdeal.Gen.facts) (hZeroIdeal := Cert.ZeroIdeal.Gen.facts) := fun m ρ m' ρ' _ _ =>
  ⟨fun _ => (constant S_ .f32 0x00000000#32 : FVec Ideal S_ .f32),
    (θ_run _ _ _).mono (fun _ h => h.1) (run_main (F := Ideal) m ρ),
    Cert.ZeroIdeal.Value.run (F := Ideal) m' ρ'⟩

end Cert.Proof.Zeros

end
-- ==== Proof.lean ====
/-
  The certificate: the frames of the kernel, of the kernel with its constants named and of the reference; that the named
  constants are what the kernel's literals round; that kernel and reference compute the same function; that the
  kernel's result is near the loss with the true sine; and that the other version's scalar-subcore call runs and
  returns zero.
-/
module

public import proofs.«01_k».proof.Defs
public import proofs.«01_k».proof.Proof.Claims
public import proofs.«01_k».proof.Proof.Probe

@[expose] public section

noncomputable section

namespace Cert.Proof

/-- Everything that the certificate claims. -/
theorem claim : Cert.Claim :=
  ⟨Cert.Kernel.Gen.facts, Cert.KernelIdeal.Gen.facts, Cert.ReferenceIdeal.Gen.facts, Cert.Probe.Gen.facts, Cert.ProbeIdeal.Gen.facts,
    Cert.ZeroIdeal.Gen.facts, Cert.Zero.Gen.facts, Cert.Pre_in_range.Gen.facts, Cert.Post_near_the_sines.Gen.facts,
    Loss.frame_kernel, Loss.frame_ideal, Loss.frame_ideal_in_range, Loss.frame_reference, Loss.frame_reference_in_range,
    Zeros.frame_probe, Zeros.frame_probe_ideal, Zeros.frame_zero_ideal, Zeros.frame_zero,
    Loss.names_kept, Loss.value_equal, Loss.near_sines,
    Zeros.nothing_named, Zeros.zero_bits, Zeros.zero_reals⟩

end Cert.Proof

end
